-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S16x1x1 : Shape := ⟨3, ![16, 1, 1]⟩
abbrev S1024x2048 : Shape := ⟨2, ![1024, 2048]⟩
abbrev S1x1x1 : Shape := ⟨3, ![1, 1, 1]⟩
abbrev S1x1024x2048 : Shape := ⟨3, ![1, 1024, 2048]⟩
abbrev S1 : Shape := ⟨1, ![1]⟩
abbrev S_ : Shape := ⟨0, ![]⟩
abbrev S1x1 : Shape := ⟨2, ![1, 1]⟩
abbrev S16384x1 : Shape := ⟨2, ![16384, 1]⟩
abbrev S1024x1 : Shape := ⟨2, ![1024, 1]⟩
abbrev S1024 : Shape := ⟨1, ![1024]⟩
abbrev S1x2 : Shape := ⟨2, ![1, 2]⟩

abbrev nBuf : Space → Nat
  | .hbm => 26
  | .vmem => 20
  | .smem => 2
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S16384x2048, .i8⟩
  | .hbm, ⟨13, _⟩ => ⟨S16384x1, .f32⟩
  | .hbm, ⟨14, _⟩ => ⟨S16x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S1x2, .f32⟩
  | .hbm, ⟨24, _⟩ => ⟨S16384x2048, .f32⟩
  | .hbm, ⟨25, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x1, .f32⟩
  | .local _ .vmem, ⟨3, _⟩ => ⟨S1x1x1, .f32⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .i8⟩
  | .local _ .vmem, ⟨8, _⟩ => ⟨S1024x2048, .i8⟩
  | .local _ .vmem, ⟨9, _⟩ => ⟨S1024x1, .f32⟩
  | .local _ .vmem, ⟨10, _⟩ => ⟨S1024x1, .f32⟩
  | .local _ .vmem, ⟨11, _⟩ => ⟨S1x1x1, .f32⟩
  | .local _ .vmem, ⟨12, _⟩ => ⟨S1x1x1, .f32⟩
  | .local _ .vmem, ⟨13, _⟩ => ⟨S1024x2048, .i8⟩
  | .local _ .vmem, ⟨14, _⟩ => ⟨S1024x2048, .i8⟩
  | .local _ .vmem, ⟨15, _⟩ => ⟨S1x2048, .f32⟩
  | .local _ .vmem, ⟨16, _⟩ => ⟨S1024x1, .f32⟩
  | .local _ .vmem, ⟨17, _⟩ => ⟨S1024x1, .f32⟩
  | .local _ .vmem, ⟨18, _⟩ => ⟨S1024x2048, .f32⟩
  | .local _ .vmem, ⟨19, _⟩ => ⟨S1024x2048, .f32⟩
  | .local _ .smem, ⟨0, _⟩ => ⟨S1x1, .f32⟩
  | .local _ .smem, ⟨1, _⟩ => ⟨S1x2, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg4_0 : Ref sig .tc := ⟨.vmem, 18, rfl⟩
abbrev cc2_stg4_1 : Ref sig .tc := ⟨.vmem, 19, rfl⟩
abbrev cc1_stg2_0 : Ref sig .tc := ⟨.smem, 0, rfl⟩
abbrev cc2_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4x4096x2048 : Shape := ⟨3, ![4, 4096, 2048]⟩
abbrev S2048 : Shape := ⟨1, ![2048]⟩
abbrev S16 : Shape := ⟨1, ![16]⟩
abbrev S256 : Shape := ⟨1, ![256]⟩
abbrev S_ : Shape := ⟨0, ![]⟩
abbrev S4x4096x2048x1 : Shape := ⟨4, ![4, 4096, 2048, 1]⟩
abbrev S4x4096 : Shape := ⟨2, ![4, 4096]⟩
abbrev S4x4096x1 : Shape := ⟨3, ![4, 4096, 1]⟩
abbrev S4x4096x1x1 : Shape := ⟨4, ![4, 4096, 1, 1]⟩
abbrev S1x1x2048 : Shape := ⟨3, ![1, 1, 2048]⟩

abbrev nBuf : Space → Nat
  | .hbm => 336
  | .vmem => 0
  | .smem => 0
  | _ => 0

abbrev hbmTy0_0 (i : Nat) : BufTy := match i % 128 with
  | 0 => ⟨S4x4096x2048, .f32⟩
  | 1 => ⟨S2048, .f32⟩
  | 2 => ⟨S16, .f32⟩
  | 3 => ⟨S256, .i32⟩
  | 4 => ⟨S4x4096x2048, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x4096x2048, .f32⟩
  | 12 => ⟨S4x4096x2048, .f32⟩
  | 13 => ⟨S4x4096x2048, .f32⟩
  | 14 => ⟨S4x4096x2048, .f32⟩
  | 15 => ⟨S4x4096x2048, .f32⟩
  | 16 => ⟨S_, .f32⟩
  | 17 => ⟨S_, .f32⟩
  | 18 => ⟨S_, .f32⟩
  | 19 => ⟨S4x4096x2048, .f32⟩
  | 20 => ⟨S4x4096x2048, .f32⟩
  | 21 => ⟨S_, .f32⟩
  | 22 => ⟨S4x4096x2048, .f32⟩
  | 23 => ⟨S4x4096x2048, .f32⟩
  | 24 => ⟨S4x4096x2048, .f32⟩
  | 25 => ⟨S4x4096x2048, .f32⟩
  | 26 => ⟨S4x4096x2048, .f32⟩
  | 27 => ⟨S4x4096x2048, .i32⟩
  | 28 => ⟨S_, .i32⟩
  | 29 => ⟨S4x4096x2048, .i32⟩
  | 30 => ⟨S4x4096x2048, .i32⟩
  | 31 => ⟨S_, .i32⟩
  | 32 => ⟨S4x4096x2048, .i32⟩
  | 33 => ⟨S4x4096x2048, .i32⟩
  | 34 => ⟨S_, .i32⟩
  | 35 => ⟨S4x4096x2048, .i32⟩
  | 36 => ⟨S4x4096x2048, .i1⟩
  | 37 => ⟨S_, .i32⟩
  | 38 => ⟨S4x4096x2048, .i32⟩
  | 39 => ⟨S4x4096x2048, .i32⟩
  | 40 => ⟨S4x4096x2048, .i32⟩
  | 41 => ⟨S4x4096x2048x1, .i32⟩
  | 42 => ⟨S4x4096x2048, .f32⟩
  | 43 => ⟨S_, .f32⟩
  | 44 => ⟨S4x4096x2048, .f32⟩
  | 45 => ⟨S4x4096x2048, .f32⟩
  | 46 => ⟨S4x4096x2048, .i32⟩
  | 47 => ⟨S4x4096x2048, .f32⟩
  | 48 => ⟨S_, .f32⟩
  | 49 => ⟨S4x4096x2048, .f32⟩
  | 50 => ⟨S4x4096x2048, .f32⟩
  | 51 => ⟨S4x4096x2048, .f32⟩
  | 52 => ⟨S_, .i32⟩
  | 53 => ⟨S4x4096x2048, .i32⟩
  | 54 => ⟨S4x4096x2048, .i1⟩
  | 55 => ⟨S_, .i32⟩
  | 56 => ⟨S4x4096x2048, .i32⟩
  | 57 => ⟨S4x4096x2048, .i32⟩
  | 58 => ⟨S4x4096x2048, .i32⟩
  | 59 => ⟨S4x4096x2048x1, .i32⟩
  | 60 => ⟨S4x4096x2048, .f32⟩
  | 61 => ⟨S4x4096x2048, .f32⟩
  | 62 => ⟨S_, .f32⟩
  | 63 => ⟨S4x4096x2048, .f32⟩
  | 64 => ⟨S4x4096x2048, .f32⟩
  | 65 => ⟨S_, .f32⟩
  | 66 => ⟨S4x4096, .f32⟩
  | 67 => ⟨S4x4096x1, .f32⟩
  | 68 => ⟨S_, .f32⟩
  | 69 => ⟨S4x4096x1, .f32⟩
  | 70 => ⟨S4x4096x1, .f32⟩
  | 71 => ⟨S_, .f32⟩
  | 72 => ⟨S4x4096x1, .f32⟩
  | 73 => ⟨S4x4096x1, .f32⟩
  | 74 => ⟨S4x4096x1, .f32⟩
  | 75 => ⟨S_, .f32⟩
  | 76 => ⟨S_, .f32⟩
  | 77 => ⟨S_, .f32⟩
  | 78 => ⟨S4x4096x1, .f32⟩
  | 79 => ⟨S4x4096x1, .f32⟩
  | 80 => ⟨S_, .f32⟩
  | 81 => ⟨S4x4096x1, .f32⟩
  | 82 => ⟨S4x4096x1, .f32⟩
  | 83 => ⟨S4x4096x1, .i32⟩
  | 84 => ⟨S_, .i32⟩
  | 85 => ⟨S_, .i32⟩
  | 86 => ⟨S_, .i32⟩
  | 87 => ⟨S4x4096x1, .i32⟩
  | 88 => ⟨S4x4096x1, .i32⟩
  | 89 => ⟨S_, .i32⟩
  | 90 => ⟨S4x4096x1, .i32⟩
  | 91 => ⟨S4x4096x1, .i32⟩
  | 92 => ⟨S_, .i32⟩
  | 93 => ⟨S4x4096x1, .i32⟩
  | 94 => ⟨S_, .i32⟩
  | 95 => ⟨S4x4096x1, .i32⟩
  | 96 => ⟨S4x4096x1, .i32⟩
  | 97 => ⟨S_, .i32⟩
  | 98 => ⟨S4x4096x1, .i32⟩
  | 99 => ⟨S4x4096x1, .i1⟩
  | 100 => ⟨S_, .i32⟩
  | 101 => ⟨S_, .i32⟩
  | 102 => ⟨S4x4096x1, .i32⟩
  | 103 => ⟨S4x4096x1, .i32⟩
  | 104 => ⟨S_, .i32⟩
  | 105 => ⟨S4x4096x1, .i32⟩
  | 106 => ⟨S4x4096x1, .i32⟩
  | 107 => ⟨S_, .i32⟩
  | 108 => ⟨S4x4096x1, .i32⟩
  | 109 => ⟨S4x4096x1, .i1⟩
  | 110 => ⟨S_, .i32⟩
  | 111 => ⟨S_, .i32⟩
  | 112 => ⟨S4x4096x1, .i32⟩
  | 113 => ⟨S4x4096x1, .i32⟩
  | 114 => ⟨S_, .i32⟩
  | 115 => ⟨S4x4096x1, .i32⟩
  | 116 => ⟨S4x4096x1, .i32⟩
  | 117 => ⟨S_, .i32⟩
  | 118 => ⟨S4x4096x1, .i32⟩
  | 119 => ⟨S4x4096x1, .i1⟩
  | 120 => ⟨S_, .i32⟩
  | 121 => ⟨S_, .i32⟩
  | 122 => ⟨S4x4096x1, .i32⟩
  | 123 => ⟨S4x4096x1, .i32⟩
  | 124 => ⟨S_, .i32⟩
  | 125 => ⟨S4x4096x1, .i32⟩
  | 126 => ⟨S4x4096x1, .i32⟩
  | 127 => ⟨S_, .i32⟩
  | _ => ⟨S4x4096x2048, .f32⟩

abbrev hbmTy0_1 (i : Nat) : BufTy := match i % 128 with
  | 0 => ⟨S4x4096x1, .i32⟩
  | 1 => ⟨S4x4096x1, .i1⟩
  | 2 => ⟨S_, .i32⟩
  | 3 => ⟨S_, .i32⟩
  | 4 => ⟨S4x4096x1, .i32⟩
  | 5 => ⟨S4x4096x1, .i32⟩
  | 6 => ⟨S_, .i32⟩
  | 7 => ⟨S4x4096x1, .i32⟩
  | 8 => ⟨S4x4096x1, .i32⟩
  | 9 => ⟨S_, .i32⟩
  | 10 => ⟨S4x4096x1, .i32⟩
  | 11 => ⟨S4x4096x1, .i1⟩
  | 12 => ⟨S_, .i32⟩
  | 13 => ⟨S_, .i32⟩
  | 14 => ⟨S4x4096x1, .i32⟩
  | 15 => ⟨S4x4096x1, .i32⟩
  | 16 => ⟨S_, .i32⟩
  | 17 => ⟨S4x4096x1, .i32⟩
  | 18 => ⟨S4x4096x1, .i32⟩
  | 19 => ⟨S_, .i32⟩
  | 20 => ⟨S4x4096x1, .i32⟩
  | 21 => ⟨S4x4096x1, .i1⟩
  | 22 => ⟨S_, .i32⟩
  | 23 => ⟨S_, .i32⟩
  | 24 => ⟨S4x4096x1, .i32⟩
  | 25 => ⟨S4x4096x1, .i32⟩
  | 26 => ⟨S_, .i32⟩
  | 27 => ⟨S4x4096x1, .i32⟩
  | 28 => ⟨S4x4096x1, .i32⟩
  | 29 => ⟨S_, .i32⟩
  | 30 => ⟨S4x4096x1, .i32⟩
  | 31 => ⟨S4x4096x1, .i1⟩
  | 32 => ⟨S_, .i32⟩
  | 33 => ⟨S_, .i32⟩
  | 34 => ⟨S4x4096x1, .i32⟩
  | 35 => ⟨S4x4096x1, .i32⟩
  | 36 => ⟨S_, .i32⟩
  | 37 => ⟨S4x4096x1, .i32⟩
  | 38 => ⟨S4x4096x1, .i32⟩
  | 39 => ⟨S_, .i32⟩
  | 40 => ⟨S4x4096x1, .i32⟩
  | 41 => ⟨S4x4096x1, .i1⟩
  | 42 => ⟨S_, .i32⟩
  | 43 => ⟨S_, .i32⟩
  | 44 => ⟨S4x4096x1, .i32⟩
  | 45 => ⟨S4x4096x1, .i32⟩
  | 46 => ⟨S_, .i32⟩
  | 47 => ⟨S4x4096x1, .i32⟩
  | 48 => ⟨S4x4096x1, .i32⟩
  | 49 => ⟨S_, .i32⟩
  | 50 => ⟨S4x4096x1, .i32⟩
  | 51 => ⟨S4x4096x1, .i1⟩
  | 52 => ⟨S_, .i32⟩
  | 53 => ⟨S_, .i32⟩
  | 54 => ⟨S4x4096x1, .i32⟩
  | 55 => ⟨S4x4096x1, .i32⟩
  | 56 => ⟨S_, .i32⟩
  | 57 => ⟨S4x4096x1, .i32⟩
  | 58 => ⟨S4x4096x1, .i32⟩
  | 59 => ⟨S_, .i32⟩
  | 60 => ⟨S4x4096x1, .i32⟩
  | 61 => ⟨S4x4096x1, .i1⟩
  | 62 => ⟨S_, .i32⟩
  | 63 => ⟨S_, .i32⟩
  | 64 => ⟨S4x4096x1, .i32⟩
  | 65 => ⟨S4x4096x1, .i32⟩
  | 66 => ⟨S_, .i32⟩
  | 67 => ⟨S4x4096x1, .i32⟩
  | 68 => ⟨S4x4096x1, .i32⟩
  | 69 => ⟨S_, .i32⟩
  | 70 => ⟨S4x4096x1, .i32⟩
  | 71 => ⟨S4x4096x1, .i1⟩
  | 72 => ⟨S_, .i32⟩
  | 73 => ⟨S_, .i32⟩
  | 74 => ⟨S4x4096x1, .i32⟩
  | 75 => ⟨S4x4096x1, .i32⟩
  | 76 => ⟨S_, .i32⟩
  | 77 => ⟨S4x4096x1, .i32⟩
  | 78 => ⟨S4x4096x1, .i32⟩
  | 79 => ⟨S_, .i32⟩
  | 80 => ⟨S4x4096x1, .i32⟩
  | 81 => ⟨S4x4096x1, .i1⟩
  | 82 => ⟨S_, .i32⟩
  | 83 => ⟨S_, .i32⟩
  | 84 => ⟨S4x4096x1, .i32⟩
  | 85 => ⟨S4x4096x1, .i32⟩
  | 86 => ⟨S_, .i32⟩
  | 87 => ⟨S4x4096x1, .i32⟩
  | 88 => ⟨S4x4096x1, .i32⟩
  | 89 => ⟨S_, .i32⟩
  | 90 => ⟨S4x4096x1, .i32⟩
  | 91 => ⟨S4x4096x1, .i1⟩
  | 92 => ⟨S_, .i32⟩
  | 93 => ⟨S_, .i32⟩
  | 94 => ⟨S4x4096x1, .i32⟩
  | 95 => ⟨S4x4096x1, .i32⟩
  | 96 => ⟨S_, .i32⟩
  | 97 => ⟨S4x4096x1, .i32⟩
  | 98 => ⟨S4x4096x1, .i32⟩
  | 99 => ⟨S_, .i32⟩
  | 100 => ⟨S4x4096x1, .i32⟩
  | 101 => ⟨S4x4096x1, .i1⟩
  | 102 => ⟨S_, .i32⟩
  | 103 => ⟨S_, .i32⟩
  | 104 => ⟨S4x4096x1, .i32⟩
  | 105 => ⟨S4x4096x1, .i32⟩
  | 106 => ⟨S_, .i32⟩
  | 107 => ⟨S4x4096x1, .i32⟩
  | 108 => ⟨S4x4096x1, .i32⟩
  | 109 => ⟨S_, .i32⟩
  | 110 => ⟨S4x4096x1, .i32⟩
  | 111 => ⟨S4x4096x1, .i1⟩
  | 112 => ⟨S_, .i32⟩
  | 113 => ⟨S_, .i32⟩
  | 114 => ⟨S4x4096x1, .i32⟩
  | 115 => ⟨S4x4096x1, .i32⟩
  | 116 => ⟨S_, .i32⟩
  | 117 => ⟨S_, .i32⟩
  | 118 => ⟨S4x4096x1, .i32⟩
  | 119 => ⟨S4x4096x1, .i32⟩
  | 120 => ⟨S4x4096x1, .i32⟩
  | 121 => ⟨S_, .i32⟩
  | 122 => ⟨S4x4096x1, .i32⟩
  | 123 => ⟨S4x4096x1, .i1⟩
  | 124 => ⟨S4x4096x1, .i32⟩
  | 125 => ⟨S4x4096x1, .i32⟩
  | 126 => ⟨S_, .i32⟩
  | 127 => ⟨S4x4096x1, .i32⟩
  | _ => ⟨S4x4096x2048, .f32⟩

abbrev hbmTy0_2 (i : Nat) : BufTy := match i % 128 with
  | 0 => ⟨S4x4096x1, .i1⟩
  | 1 => ⟨S4x4096x1, .i1⟩
  | 2 => ⟨S_, .i32⟩
  | 3 => ⟨S4x4096x1, .i32⟩
  | 4 => ⟨S4x4096x1, .i32⟩
  | 5 => ⟨S4x4096x1, .i32⟩
  | 6 => ⟨S_, .i32⟩
  | 7 => ⟨S4x4096x1, .i32⟩
  | 8 => ⟨S4x4096x1, .i32⟩
  | 9 => ⟨S_, .i32⟩
  | 10 => ⟨S4x4096x1, .i32⟩
  | 11 => ⟨S4x4096x1, .i32⟩
  | 12 => ⟨S4x4096x1, .i32⟩
  | 13 => ⟨S_, .i32⟩
  | 14 => ⟨S4x4096x1, .i32⟩
  | 15 => ⟨S4x4096x1, .i32⟩
  | 16 => ⟨S_, .i32⟩
  | 17 => ⟨S4x4096x1, .i32⟩
  | 18 => ⟨S4x4096x1, .i32⟩
  | 19 => ⟨S_, .i32⟩
  | 20 => ⟨S4x4096x1, .i32⟩
  | 21 => ⟨S4x4096x1, .i1⟩
  | 22 => ⟨S_, .i32⟩
  | 23 => ⟨S4x4096x1, .i32⟩
  | 24 => ⟨S4x4096x1, .i32⟩
  | 25 => ⟨S4x4096x1, .i32⟩
  | 26 => ⟨S4x4096x1x1, .i32⟩
  | 27 => ⟨S4x4096x1, .i32⟩
  | 28 => ⟨S_, .i32⟩
  | 29 => ⟨S4x4096x1, .i32⟩
  | 30 => ⟨S4x4096x1, .i32⟩
  | 31 => ⟨S4x4096x1, .i32⟩
  | 32 => ⟨S4x4096x1, .i32⟩
  | 33 => ⟨S4x4096x1, .i32⟩
  | 34 => ⟨S4x4096x1, .i1⟩
  | 35 => ⟨S_, .i32⟩
  | 36 => ⟨S4x4096x1, .i32⟩
  | 37 => ⟨S4x4096x1, .i32⟩
  | 38 => ⟨S4x4096x1, .i32⟩
  | 39 => ⟨S_, .i32⟩
  | 40 => ⟨S4x4096x1, .i32⟩
  | 41 => ⟨S4x4096x1, .i1⟩
  | 42 => ⟨S_, .i32⟩
  | 43 => ⟨S_, .i32⟩
  | 44 => ⟨S4x4096x1, .i32⟩
  | 45 => ⟨S4x4096x1, .i32⟩
  | 46 => ⟨S4x4096x1, .f32⟩
  | 47 => ⟨S_, .f32⟩
  | 48 => ⟨S4x4096x1, .f32⟩
  | 49 => ⟨S4x4096x1, .f32⟩
  | 50 => ⟨S_, .f32⟩
  | 51 => ⟨S4x4096x1, .f32⟩
  | 52 => ⟨S4x4096x1, .f32⟩
  | 53 => ⟨S4x4096x2048, .f32⟩
  | 54 => ⟨S4x4096x2048, .f32⟩
  | 55 => ⟨S1x1x2048, .f32⟩
  | 56 => ⟨S4x4096x2048, .f32⟩
  | 57 => ⟨S4x4096x2048, .f32⟩
  | 58 => ⟨S4x4096x2048, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S4x4096x2048, .f32⟩
  | 66 => ⟨S4x4096x2048, .f32⟩
  | 67 => ⟨S4x4096x2048, .f32⟩
  | 68 => ⟨S4x4096x2048, .f32⟩
  | 69 => ⟨S4x4096x2048, .f32⟩
  | 70 => ⟨S_, .f32⟩
  | 71 => ⟨S_, .f32⟩
  | 72 => ⟨S_, .f32⟩
  | 73 => ⟨S4x4096x2048, .f32⟩
  | 74 => ⟨S4x4096x2048, .f32⟩
  | 75 => ⟨S_, .f32⟩
  | 76 => ⟨S4x4096x2048, .f32⟩
  | 77 => ⟨S4x4096x2048, .f32⟩
  | 78 => ⟨S4x4096x2048, .f32⟩
  | 79 => ⟨S4x4096x2048, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_11 : Ref sig .tc := ⟨.hbm, 52, rfl⟩
abbrev main_v32 : Ref sig .tc := ⟨.hbm, 53, rfl⟩
abbrev main_v33 : Ref sig .tc := ⟨.hbm, 54, rfl⟩
abbrev main_c_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_cst_14 : Ref sig .tc := ⟨.hbm, 68, rfl⟩
abbrev main_v45 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_16 : Ref sig .tc := ⟨.hbm, 75, rfl⟩
abbrev main_cst_17 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v50 : Ref sig .tc := ⟨.hbm, 82, rfl⟩
abbrev main_v51 : Ref sig .tc := ⟨.hbm, 83, rfl⟩
abbrev main_c_18 : Ref sig .tc := ⟨.hbm, 84, rfl⟩
abbrev main_c_19 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v52 : Ref sig .tc := ⟨.hbm, 91, rfl⟩
abbrev main_c_20 : Ref sig .tc := ⟨.hbm, 92, rfl⟩
abbrev main_v53 : Ref sig .tc := ⟨.hbm, 93, rfl⟩
abbrev main_c_21 : Ref sig .tc := ⟨.hbm, 94, rfl⟩
abbrev main_v54 : Ref sig .tc := ⟨.hbm, 95, rfl⟩
abbrev main_v55 : Ref sig .tc := ⟨.hbm, 96, rfl⟩
abbrev main_c_22 : Ref sig .tc := ⟨.hbm, 97, rfl⟩
abbrev main_v56 : Ref sig .tc := ⟨.hbm, 98, rfl⟩
abbrev main_v57 : Ref sig .tc := ⟨.hbm, 99, rfl⟩
abbrev main_c_23 : Ref sig .tc := ⟨.hbm, 100, rfl⟩
abbrev main_call5_v0 : Ref sig .tc := ⟨.hbm, 101, rfl⟩
abbrev main_call5_v1 : Ref sig .tc := ⟨.hbm, 102, rfl⟩
abbrev main_v58 : Ref sig .tc := ⟨.hbm, 103, rfl⟩
abbrev main_c_24 : Ref sig .tc := ⟨.hbm, 104, rfl⟩
abbrev main_v59 : Ref sig .tc := ⟨.hbm, 105, rfl⟩
abbrev main_v60 : Ref sig .tc := ⟨.hbm, 106, rfl⟩
abbrev main_c_25 : Ref sig .tc := ⟨.hbm, 107, rfl⟩
abbrev main_v61 : Ref sig .tc := ⟨.hbm, 108, rfl⟩
abbrev main_v62 : Ref sig .tc := ⟨.hbm, 109, rfl⟩
abbrev main_c_26 : Ref sig .tc := ⟨.hbm, 110, rfl⟩
abbrev main_call6_v0 : Ref sig .tc := ⟨.hbm, 111, rfl⟩
abbrev main_call6_v1 : Ref sig .tc := ⟨.hbm, 112, rfl⟩
abbrev main_v63 : Ref sig .tc := ⟨.hbm, 113, rfl⟩
abbrev main_c_27 : Ref sig .tc := ⟨.hbm, 114, rfl⟩
abbrev main_v64 : Ref sig .tc := ⟨.hbm, 115, rfl⟩
abbrev main_v65 : Ref sig .tc := ⟨.hbm, 116, rfl⟩
abbrev main_c_28 : Ref sig .tc := ⟨.hbm, 117, rfl⟩
abbrev main_v66 : Ref sig .tc := ⟨.hbm, 118, rfl⟩
abbrev main_v67 : Ref sig .tc := ⟨.hbm, 119, rfl⟩
abbrev main_c_29 : Ref sig .tc := ⟨.hbm, 120, rfl⟩
abbrev main_call7_v0 : Ref sig .tc := ⟨.hbm, 121, rfl⟩
abbrev main_call7_v1 : Ref sig .tc := ⟨.hbm, 122, rfl⟩
abbrev main_v68 : Ref sig .tc := ⟨.hbm, 123, rfl⟩
abbrev main_c_30 : Ref sig .tc := ⟨.hbm, 124, rfl⟩
abbrev main_v69 : Ref sig .tc := ⟨.hbm, 125, rfl⟩
abbrev main_v70 : Ref sig .tc := ⟨.hbm, 126, rfl⟩
abbrev main_c_31 : Ref sig .tc := ⟨.hbm, 127, rfl⟩
abbrev main_v71 : Ref sig .tc := ⟨.hbm, 128, rfl⟩
abbrev main_v72 : Ref sig .tc := ⟨.hbm, 129, rfl⟩
abbrev main_c_32 : Ref sig .tc := ⟨.hbm, 130, rfl⟩
abbrev main_call8_v0 : Ref sig .tc := ⟨.hbm, 131, rfl⟩
abbrev main_call8_v1 : Ref sig .tc := ⟨.hbm, 132, rfl⟩
abbrev main_v73 : Ref sig .tc := ⟨.hbm, 133, rfl⟩
abbrev main_c_33 : Ref sig .tc := ⟨.hbm, 134, rfl⟩
abbrev main_v74 : Ref sig .tc := ⟨.hbm, 135, rfl⟩
abbrev main_v75 : Ref sig .tc := ⟨.hbm, 136, rfl⟩
abbrev main_c_34 : Ref sig .tc := ⟨.hbm, 137, rfl⟩
abbrev main_v76 : Ref sig .tc := ⟨.hbm, 138, rfl⟩
abbrev main_v77 : Ref sig .tc := ⟨.hbm, 139, rfl⟩
abbrev main_c_35 : Ref sig .tc := ⟨.hbm, 140, rfl⟩
abbrev main_call9_v0 : Ref sig .tc := ⟨.hbm, 141, rfl⟩
abbrev main_call9_v1 : Ref sig .tc := ⟨.hbm, 142, rfl⟩
abbrev main_v78 : Ref sig .tc := ⟨.hbm, 143, rfl⟩
abbrev main_c_36 : Ref sig .tc := ⟨.hbm, 144, rfl⟩
abbrev main_v79 : Ref sig .tc := ⟨.hbm, 145, rfl⟩
abbrev main_v80 : Ref sig .tc := ⟨.hbm, 146, rfl⟩
abbrev main_c_37 : Ref sig .tc := ⟨.hbm, 147, rfl⟩
abbrev main_v81 : Ref sig .tc := ⟨.hbm, 148, rfl⟩
abbrev main_v82 : Ref sig .tc := ⟨.hbm, 149, rfl⟩
abbrev main_c_38 : Ref sig .tc := ⟨.hbm, 150, rfl⟩
abbrev main_call10_v0 : Ref sig .tc := ⟨.hbm, 151, rfl⟩
abbrev main_call10_v1 : Ref sig .tc := ⟨.hbm, 152, rfl⟩
abbrev main_v83 : Ref sig .tc := ⟨.hbm, 153, rfl⟩
abbrev main_c_39 : Ref sig .tc := ⟨.hbm, 154, rfl⟩
abbrev main_v84 : Ref sig .tc := ⟨.hbm, 155, rfl⟩
abbrev main_v85 : Ref sig .tc := ⟨.hbm, 156, rfl⟩
abbrev main_c_40 : Ref sig .tc := ⟨.hbm, 157, rfl⟩
abbrev main_v86 : Ref sig .tc := ⟨.hbm, 158, rfl⟩
abbrev main_v87 : Ref sig .tc := ⟨.hbm, 159, rfl⟩
abbrev main_c_41 : Ref sig .tc := ⟨.hbm, 160, rfl⟩
abbrev main_call11_v0 : Ref sig .tc := ⟨.hbm, 161, rfl⟩
abbrev main_call11_v1 : Ref sig .tc := ⟨.hbm, 162, rfl⟩
abbrev main_v88 : Ref sig .tc := ⟨.hbm, 163, rfl⟩
abbrev main_c_42 : Ref sig .tc := ⟨.hbm, 164, rfl⟩
abbrev main_v89 : Ref sig .tc := ⟨.hbm, 165, rfl⟩
abbrev main_v90 : Ref sig .tc := ⟨.hbm, 166, rfl⟩
abbrev main_c_43 : Ref sig .tc := ⟨.hbm, 167, rfl⟩
abbrev main_v91 : Ref sig .tc := ⟨.hbm, 168, rfl⟩
abbrev main_v92 : Ref sig .tc := ⟨.hbm, 169, rfl⟩
abbrev main_c_44 : Ref sig .tc := ⟨.hbm, 170, rfl⟩
abbrev main_call12_v0 : Ref sig .tc := ⟨.hbm, 171, rfl⟩
abbrev main_call12_v1 : Ref sig .tc := ⟨.hbm, 172, rfl⟩
abbrev main_v93 : Ref sig .tc := ⟨.hbm, 173, rfl⟩
abbrev main_c_45 : Ref sig .tc := ⟨.hbm, 174, rfl⟩
abbrev main_v94 : Ref sig .tc := ⟨.hbm, 175, rfl⟩
abbrev main_v95 : Ref sig .tc := ⟨.hbm, 176, rfl⟩
abbrev main_c_46 : Ref sig .tc := ⟨.hbm, 177, rfl⟩
abbrev main_v96 : Ref sig .tc := ⟨.hbm, 178, rfl⟩
abbrev main_v97 : Ref sig .tc := ⟨.hbm, 179, rfl⟩
abbrev main_c_47 : Ref sig .tc := ⟨.hbm, 180, rfl⟩
abbrev main_call13_v0 : Ref sig .tc := ⟨.hbm, 181, rfl⟩
abbrev main_call13_v1 : Ref sig .tc := ⟨.hbm, 182, rfl⟩
abbrev main_v98 : Ref sig .tc := ⟨.hbm, 183, rfl⟩
abbrev main_c_48 : Ref sig .tc := ⟨.hbm, 184, rfl⟩
abbrev main_v99 : Ref sig .tc := ⟨.hbm, 185, rfl⟩
abbrev main_v100 : Ref sig .tc := ⟨.hbm, 186, rfl⟩
abbrev main_c_49 : Ref sig .tc := ⟨.hbm, 187, rfl⟩
abbrev main_v101 : Ref sig .tc := ⟨.hbm, 188, rfl⟩
abbrev main_v102 : Ref sig .tc := ⟨.hbm, 189, rfl⟩
abbrev main_c_50 : Ref sig .tc := ⟨.hbm, 190, rfl⟩
abbrev main_call14_v0 : Ref sig .tc := ⟨.hbm, 191, rfl⟩
abbrev main_call14_v1 : Ref sig .tc := ⟨.hbm, 192, rfl⟩
abbrev main_v103 : Ref sig .tc := ⟨.hbm, 193, rfl⟩
abbrev main_c_51 : Ref sig .tc := ⟨.hbm, 194, rfl⟩
abbrev main_v104 : Ref sig .tc := ⟨.hbm, 195, rfl⟩
abbrev main_v105 : Ref sig .tc := ⟨.hbm, 196, rfl⟩
abbrev main_c_52 : Ref sig .tc := ⟨.hbm, 197, rfl⟩
abbrev main_v106 : Ref sig .tc := ⟨.hbm, 198, rfl⟩
abbrev main_v107 : Ref sig .tc := ⟨.hbm, 199, rfl⟩
abbrev main_c_53 : Ref sig .tc := ⟨.hbm, 200, rfl⟩
abbrev main_call15_v0 : Ref sig .tc := ⟨.hbm, 201, rfl⟩
abbrev main_call15_v1 : Ref sig .tc := ⟨.hbm, 202, rfl⟩
abbrev main_v108 : Ref sig .tc := ⟨.hbm, 203, rfl⟩
abbrev main_c_54 : Ref sig .tc := ⟨.hbm, 204, rfl⟩
abbrev main_v109 : Ref sig .tc := ⟨.hbm, 205, rfl⟩
abbrev main_v110 : Ref sig .tc := ⟨.hbm, 206, rfl⟩
abbrev main_c_55 : Ref sig .tc := ⟨.hbm, 207, rfl⟩
abbrev main_v111 : Ref sig .tc := ⟨.hbm, 208, rfl⟩
abbrev main_v112 : Ref sig .tc := ⟨.hbm, 209, rfl⟩
abbrev main_c_56 : Ref sig .tc := ⟨.hbm, 210, rfl⟩
abbrev main_call16_v0 : Ref sig .tc := ⟨.hbm, 211, rfl⟩
abbrev main_call16_v1 : Ref sig .tc := ⟨.hbm, 212, rfl⟩
abbrev main_v113 : Ref sig .tc := ⟨.hbm, 213, rfl⟩
abbrev main_c_57 : Ref sig .tc := ⟨.hbm, 214, rfl⟩
abbrev main_v114 : Ref sig .tc := ⟨.hbm, 215, rfl⟩
abbrev main_v115 : Ref sig .tc := ⟨.hbm, 216, rfl⟩
abbrev main_c_58 : Ref sig .tc := ⟨.hbm, 217, rfl⟩
abbrev main_v116 : Ref sig .tc := ⟨.hbm, 218, rfl⟩
abbrev main_v117 : Ref sig .tc := ⟨.hbm, 219, rfl⟩
abbrev main_c_59 : Ref sig .tc := ⟨.hbm, 220, rfl⟩
abbrev main_call17_v0 : Ref sig .tc := ⟨.hbm, 221, rfl⟩
abbrev main_call17_v1 : Ref sig .tc := ⟨.hbm, 222, rfl⟩
abbrev main_v118 : Ref sig .tc := ⟨.hbm, 223, rfl⟩
abbrev main_c_60 : Ref sig .tc := ⟨.hbm, 224, rfl⟩
abbrev main_v119 : Ref sig .tc := ⟨.hbm, 225, rfl⟩
abbrev main_v120 : Ref sig .tc := ⟨.hbm, 226, rfl⟩
abbrev main_c_61 : Ref sig .tc := ⟨.hbm, 227, rfl⟩
abbrev main_v121 : Ref sig .tc := ⟨.hbm, 228, rfl⟩
abbrev main_v122 : Ref sig .tc := ⟨.hbm, 229, rfl⟩
abbrev main_c_62 : Ref sig .tc := ⟨.hbm, 230, rfl⟩
abbrev main_call18_v0 : Ref sig .tc := ⟨.hbm, 231, rfl⟩
abbrev main_call18_v1 : Ref sig .tc := ⟨.hbm, 232, rfl⟩
abbrev main_v123 : Ref sig .tc := ⟨.hbm, 233, rfl⟩
abbrev main_c_63 : Ref sig .tc := ⟨.hbm, 234, rfl⟩
abbrev main_v124 : Ref sig .tc := ⟨.hbm, 235, rfl⟩
abbrev main_v125 : Ref sig .tc := ⟨.hbm, 236, rfl⟩
abbrev main_c_64 : Ref sig .tc := ⟨.hbm, 237, rfl⟩
abbrev main_v126 : Ref sig .tc := ⟨.hbm, 238, rfl⟩
abbrev main_v127 : Ref sig .tc := ⟨.hbm, 239, rfl⟩
abbrev main_c_65 : Ref sig .tc := ⟨.hbm, 240, rfl⟩
abbrev main_call19_v0 : Ref sig .tc := ⟨.hbm, 241, rfl⟩
abbrev main_call19_v1 : Ref sig .tc := ⟨.hbm, 242, rfl⟩
abbrev main_v128 : Ref sig .tc := ⟨.hbm, 243, rfl⟩
abbrev main_c_66 : Ref sig .tc := ⟨.hbm, 244, rfl⟩
abbrev main_call20_v0 : Ref sig .tc := ⟨.hbm, 245, rfl⟩
abbrev main_call20_v1 : Ref sig .tc := ⟨.hbm, 246, rfl⟩
abbrev main_call20_v2 : Ref sig .tc := ⟨.hbm, 247, rfl⟩
abbrev main_call20_v3 : Ref sig .tc := ⟨.hbm, 248, rfl⟩
abbrev main_call20_v4 : Ref sig .tc := ⟨.hbm, 249, rfl⟩
abbrev main_call20_v5 : Ref sig .tc := ⟨.hbm, 250, rfl⟩
abbrev main_call20_v6 : Ref sig .tc := ⟨.hbm, 251, rfl⟩
abbrev main_call20_v7 : Ref sig .tc := ⟨.hbm, 252, rfl⟩
abbrev main_call20_v8 : Ref sig .tc := ⟨.hbm, 253, rfl⟩
abbrev main_call20_c : Ref sig .tc := ⟨.hbm, 254, rfl⟩
abbrev main_call20_v9 : Ref sig .tc := ⟨.hbm, 255, rfl⟩
abbrev main_call20_v10 : Ref sig .tc := ⟨.hbm, 256, rfl⟩
abbrev main_call20_v11 : Ref sig .tc := ⟨.hbm, 257, rfl⟩
abbrev main_call20_c_0 : Ref sig .tc := ⟨.hbm, 258, rfl⟩
abbrev main_call20_v12 : Ref sig .tc := ⟨.hbm, 259, rfl⟩
abbrev main_call20_v13 : Ref sig .tc := ⟨.hbm, 260, rfl⟩
abbrev main_v129 : Ref sig .tc := ⟨.hbm, 261, rfl⟩
abbrev main_c_67 : Ref sig .tc := ⟨.hbm, 262, rfl⟩
abbrev main_v130 : Ref sig .tc := ⟨.hbm, 263, rfl⟩
abbrev main_v131 : Ref sig .tc := ⟨.hbm, 264, rfl⟩
abbrev main_c_68 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_c_69 : Ref sig .tc := ⟨.hbm, 269, rfl⟩
abbrev main_v135 : Ref sig .tc := ⟨.hbm, 270, rfl⟩
abbrev main_v136 : Ref sig .tc := ⟨.hbm, 271, rfl⟩
abbrev main_c_70 : Ref sig .tc := ⟨.hbm, 272, rfl⟩
abbrev main_v137 : Ref sig .tc := ⟨.hbm, 273, rfl⟩
abbrev main_v138 : Ref sig .tc := ⟨.hbm, 274, rfl⟩
abbrev main_c_71 : Ref sig .tc := ⟨.hbm, 275, rfl⟩
abbrev main_v139 : Ref sig .tc := ⟨.hbm, 276, rfl⟩
abbrev main_v140 : Ref sig .tc := ⟨.hbm, 277, rfl⟩
abbrev main_c_72 : Ref sig .tc := ⟨.hbm, 278, rfl⟩
abbrev main_v141 : Ref sig .tc := ⟨.hbm, 279, rfl⟩
abbrev main_v142 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_c_73 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_v150 : Ref sig .tc := ⟨.hbm, 289, rfl⟩
abbrev main_v151 : Ref sig .tc := ⟨.hbm, 290, rfl⟩
abbrev main_c_74 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_c_75 : Ref sig .tc := ⟨.hbm, 295, rfl⟩
abbrev main_v155 : Ref sig .tc := ⟨.hbm, 296, rfl⟩
abbrev main_v156 : Ref sig .tc := ⟨.hbm, 297, rfl⟩
abbrev main_c_76 : Ref sig .tc := ⟨.hbm, 298, rfl⟩
abbrev main_call22_v0 : Ref sig .tc := ⟨.hbm, 299, rfl⟩
abbrev main_call22_v1 : Ref sig .tc := ⟨.hbm, 300, rfl⟩
abbrev main_v157 : Ref sig .tc := ⟨.hbm, 301, rfl⟩
abbrev main_v158 : Ref sig .tc := ⟨.hbm, 302, rfl⟩
abbrev main_cst_77 : Ref sig .tc := ⟨.hbm, 303, rfl⟩
abbrev main_v159 : Ref sig .tc := ⟨.hbm, 304, rfl⟩
abbrev main_v160 : Ref sig .tc := ⟨.hbm, 305, rfl⟩
abbrev main_cst_78 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_v167 : Ref sig .tc := ⟨.hbm, 313, rfl⟩
abbrev main_v168 : Ref sig .tc := ⟨.hbm, 314, rfl⟩
abbrev main_cst_79 : Ref sig .tc := ⟨.hbm, 315, rfl⟩
abbrev main_v169 : Ref sig .tc := ⟨.hbm, 316, rfl⟩
abbrev main_cst_80 : Ref sig .tc := ⟨.hbm, 317, rfl⟩
abbrev main_v170 : Ref sig .tc := ⟨.hbm, 318, rfl⟩
abbrev main_cst_81 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_v176 : Ref sig .tc := ⟨.hbm, 325, rfl⟩
abbrev main_cst_82 : Ref sig .tc := ⟨.hbm, 326, rfl⟩
abbrev main_cst_83 : Ref sig .tc := ⟨.hbm, 327, rfl⟩
abbrev main_call24_v0 : Ref sig .tc := ⟨.hbm, 328, rfl⟩
abbrev main_call24_v1 : Ref sig .tc := ⟨.hbm, 329, rfl⟩
abbrev main_call24_v2 : Ref sig .tc := ⟨.hbm, 330, rfl⟩
abbrev main_call24_v3 : Ref sig .tc := ⟨.hbm, 331, rfl⟩
abbrev main_call24_v4 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩

abbrev nD : Nat := 1
abbrev τ : Topo := Topo.v7x

variable {F : FTy → Type} [FloatOps F]
-- ==== Proof.KernelRun.lean ====
/- The run of the idealized kernel with its result named: beside what its frame says, the result buffer ends at
   `Gen.W7`, the buffer contents after the last of the seven segments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel terminates, nothing faulting, with
    the result buffer at `W7`'s contents, the arguments as launched and every counter at zero: the launch of
    `Gen.frame` with one more buffer read off the last thread state. -/
theorem run : θ_run defs (onTc (τ := τ) (main (F := F))) ⟨m, fun _ => 0, ρ⟩ (fun r => (∀ c : Dev nD,
      r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v15 (by decide)),
       (h c _ (mem_uc main_arg0 (by decide))).trans (W7_main_arg0 m ρ c),
       (h c _ (mem_uc main_arg1 (by decide))).trans (W7_main_arg1 m ρ c)⟩), funext fun g => hz g (.inr (no_unscoped g.2))⟩)

end Cert.KernelIdeal.Gen

end
-- ==== Proof.Spec.lean ====
module

public import Idealize.ShloMosaic.Lib.Pointwise
public import Idealize.ShloMosaic.PureOps.Ideal

/-! # The closed form both programs are shown to compute

`X` is the activation as 16384 rows of 2048 entries, `w` the weight row. Everything is over the extended reals. -/

@[expose] public section
noncomputable section
open Idealize.ShloMosaic
namespace Cert.Norm

/-- The absolute value as the larger of a number and its negation. -/
def mag (x : EReal) : EReal := max x (-x)

/-- The quantised value: the quotient by the scale, rounded half to even, clamped to [-127, 127]. -/
def quant (s x : EReal) : EReal :=
  min (Ideal.ofBits .f32 0x42FE0000#32)
    (max (Ideal.ofBits .f32 0xC2FE0000#32) (Ideal.liftRound Ideal.roundHalfEven (Ideal.div x s)))

/-- The quantised value scaled back. -/
def requant (s x : EReal) : EReal := quant s x * s

/-- The scale belonging to a largest magnitude: a 127th of it, but at least 1e-8. -/
def scaleFor (t : EReal) : EReal :=
  max (Ideal.div t (Ideal.ofBits .f32 0x42FE0000#32)) (Ideal.ofBits .f32 0x322BCC77#32)

/-- A value rounded half to even and clamped to [1, 65535]. -/
def nearest (t : EReal) : EReal :=
  min (Ideal.ofBits .f32 0x477FFF00#32)
    (max 1
      (Ideal.liftRound Ideal.roundHalfEven (max t 0)))

/-- One step of the bitwise root: the bit `b` is kept when the square of the candidate stays at or below `d`. -/
def bitStep (d q b : EReal) : EReal := if (q + b) * (q + b) ≤ d then q + b else q

/-- The root rounded down, by eight steps over the bits 128, 64, …, 1. -/
def floorRoot (d : EReal) : EReal :=
  bitStep d (bitStep d (bitStep d (bitStep d (bitStep d (bitStep d (bitStep d (bitStep d 0
    (Ideal.ofBits .f32 0x43000000#32)) (Ideal.ofBits .f32 0x42800000#32)) (Ideal.ofBits .f32 0x42000000#32))
    (Ideal.ofBits .f32 0x41800000#32)) (Ideal.ofBits .f32 0x41000000#32)) (Ideal.ofBits .f32 0x40800000#32))
    (Ideal.ofBits .f32 0x40000000#32)) 1

/-- The root rounded to nearest: one more than the floor `q` when `q² + q < d`. -/
def root (d : EReal) : EReal :=
  if floorRoot d * floorRoot d + floorRoot d < d then floorRoot d + 1 else floorRoot d

/-- The reciprocal of the root, which is first raised to at least 1e-5. -/
def invRoot (d : EReal) : EReal :=
  Ideal.div 1 (max (root d) (Ideal.ofBits .f32 0x3727C5AC#32))

/-- The mean square of a row's dequantised values: the sum of the quantised squares, times the squared scale over 2048. -/
def meanSq (s : EReal) (row : Fin 2048 → EReal) : EReal :=
  (∑ k, quant s (row k) * quant s (row k)) * Ideal.div (s * s) (Ideal.ofBits .f32 0x45000000#32)

/-- The factor a row is normalised by. -/
def invRow (s : EReal) (row : Fin 2048 → EReal) : EReal := invRoot (nearest (meanSq s row))

/-- One normalised entry: weight times dequantised value times the row's factor. -/
def normed (s i w x : EReal) : EReal := w * (quant s x * s * i)

/-- The scale of the input: from its largest magnitude. -/
def scaleIn (X : Fin 16384 → Fin 2048 → EReal) : EReal := scaleFor (⨆ r, ⨆ k, mag (X r k))

/-- The normalised entry at a row and a column. -/
def entry (X : Fin 16384 → Fin 2048 → EReal) (w : Fin 2048 → EReal) (r : Fin 16384) (k : Fin 2048) : EReal :=
  normed (scaleIn X) (invRow (scaleIn X) (X r)) (w k) (X r k)

/-- The scale of the output: from the largest magnitude of the normalised entries. -/
def scaleOut (X : Fin 16384 → Fin 2048 → EReal) (w : Fin 2048 → EReal) : EReal := scaleFor (⨆ r, ⨆ k, mag (entry X w r k))

/-- The result at a row and a column. -/
def result (X : Fin 16384 → Fin 2048 → EReal) (w : Fin 2048 → EReal) (r : Fin 16384) (k : Fin 2048) : EReal :=
  requant (scaleOut X w) (entry X w r k)

/-! ## The arguments' shapes: four batches of 4096 rows -/

/-- The activation array as 16384 rows. -/
def rows (x : (⟨3, ![4, 4096, 2048]⟩ : Shape).Idx → EReal) (r : Fin 16384) (k : Fin 2048) : EReal :=
  x (ix3 ⟨r.val / 4096, by omega⟩ ⟨r.val % 4096, by omega⟩ k)

/-- The weight array as a row. -/
def weight (w : (⟨1, ![2048]⟩ : Shape).Idx → EReal) (k : Fin 2048) : EReal := w (ix1 k)

/-- Row `b` of batch `a` as one of the 16384 rows. -/
def rowAt (a : Fin 4) (b : Fin 4096) : Fin 16384 := ⟨a.val * 4096 + b.val, by omega⟩

/-- The result array. -/
def resultArray (x : (⟨3, ![4, 4096, 2048]⟩ : Shape).Idx → EReal) (w : (⟨1, ![2048]⟩ : Shape).Idx → EReal) :
    (⟨3, ![4, 4096, 2048]⟩ : Shape).Idx → EReal :=
  fun i => result (rows x) (weight w) (rowAt (i 0) (i 1)) (i 2)

/-- A batch's row, read through the 16384 rows. -/
theorem rows_rowAt (x : (⟨3, ![4, 4096, 2048]⟩ : Shape).Idx → EReal) (a : Fin 4) (b : Fin 4096) (k : Fin 2048) :
    rows x (rowAt a b) k = x (ix3 a b k) := by
  have e1 : (⟨(rowAt a b).val / 4096, by omega⟩ : Fin 4) = a := by apply Fin.ext; simp only [rowAt]; omega
  have e2 : (⟨(rowAt a b).val % 4096, by omega⟩ : Fin 4096) = b := by apply Fin.ext; simp only [rowAt]; omega
  unfold rows
  rw [e1, e2]

/-- A supremum over batches and their rows is one over the 16384 rows. -/
theorem iSup_batches (f : Fin 16384 → EReal) : ⨆ a : Fin 4, ⨆ b : Fin 4096, f (rowAt a b) = ⨆ r, f r := by
  apply le_antisymm
  · exact iSup_le fun a => iSup_le fun b => le_iSup f _
  · refine iSup_le fun r => ?_
    have e : rowAt ⟨r.val / 4096, by omega⟩ ⟨r.val % 4096, by omega⟩ = r := by
      apply Fin.ext; simp only [rowAt]; omega
    exact le_trans (by rw [e]) (le_iSup₂ (f := fun a b => f (rowAt a b)) ⟨r.val / 4096, by omega⟩ ⟨r.val % 4096, by omega⟩)

end Cert.Norm
-- ==== Proof.Consts.lean ====
module

public import Idealize.ShloMosaic.PureOps.Ideal

/-! # The values of the programs' 32-bit float literals over the extended reals -/

@[expose] public section
noncomputable section
open Idealize.ShloMosaic
namespace Cert.Norm

/-- The literal of one. -/
theorem bits_one : Ideal.ofBits .f32 0x3F800000#32 = 1 := by
  have h : Ideal.ofBits .f32 0x3F800000#32 = ((1 : ℝ) : EReal) := by
    simp [Ideal.ofBits, Ideal.ieee, -EReal.coe_mul]; norm_num
  rw [h]; rfl
/-- The literal of 2. -/
theorem bits_2 : Ideal.ofBits .f32 0x40000000#32 = ((2 : ℝ) : EReal) := by
  simp [Ideal.ofBits, Ideal.ieee, -EReal.coe_mul]; norm_num
/-- The literal of 4. -/
theorem bits_4 : Ideal.ofBits .f32 0x40800000#32 = ((4 : ℝ) : EReal) := by
  simp [Ideal.ofBits, Ideal.ieee, -EReal.coe_mul]; norm_num
/-- The literal of 8. -/
theorem bits_8 : Ideal.ofBits .f32 0x41000000#32 = ((8 : ℝ) : EReal) := by
  simp [Ideal.ofBits, Ideal.ieee, -EReal.coe_mul]; norm_num
/-- The literal of 16. -/
theorem bits_16 : Ideal.ofBits .f32 0x41800000#32 = ((16 : ℝ) : EReal) := by
  simp [Ideal.ofBits, Ideal.ieee, -EReal.coe_mul]; norm_num
/-- The literal of 32. -/
theorem bits_32 : Ideal.ofBits .f32 0x42000000#32 = ((32 : ℝ) : EReal) := by
  simp [Ideal.ofBits, Ideal.ieee, -EReal.coe_mul]; norm_num
/-- The literal of 64. -/
theorem bits_64 : Ideal.ofBits .f32 0x42800000#32 = ((64 : ℝ) : EReal) := by
  simp [Ideal.ofBits, Ideal.ieee, -EReal.coe_mul]; norm_num
/-- The literal of 128. -/
theorem bits_128 : Ideal.ofBits .f32 0x43000000#32 = ((128 : ℝ) : EReal) := by
  simp [Ideal.ofBits, Ideal.ieee, -EReal.coe_mul]; norm_num
/-- The literal of 256. -/
theorem bits_256 : Ideal.ofBits .f32 0x43800000#32 = ((256 : ℝ) : EReal) := by
  simp [Ideal.ofBits, Ideal.ieee, -EReal.coe_mul]; norm_num
/-- The literal of 2048. -/
theorem bits_2048 : Ideal.ofBits .f32 0x45000000#32 = ((2048 : ℝ) : EReal) := by
  simp [Ideal.ofBits, Ideal.ieee, -EReal.coe_mul]; norm_num
/-- The literal of 127. -/
theorem bits_127 : Ideal.ofBits .f32 0x42FE0000#32 = ((127 : ℝ) : EReal) := by
  simp [Ideal.ofBits, Ideal.ieee, -EReal.coe_mul]; norm_num
/-- The literal of minus 127. -/
theorem bits_neg127 : Ideal.ofBits .f32 0xC2FE0000#32 = ((-127 : ℝ) : EReal) := by
  simp [Ideal.ofBits, Ideal.ieee, -EReal.coe_mul]; norm_num
/-- The literal of 65535. -/
theorem bits_65535 : Ideal.ofBits .f32 0x477FFF00#32 = ((65535 : ℝ) : EReal) := by
  simp [Ideal.ofBits, Ideal.ieee, -EReal.coe_mul]; norm_num
/-- The literal of minus infinity. -/
theorem bits_bot : Ideal.ofBits .f32 0xFF800000#32 = ⊥ := by
  simp [Ideal.ofBits, Ideal.ieee, -EReal.coe_mul]
/-- The literal nearest 1e-8 is a positive real. -/
theorem bits_small : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]

end Cert.Norm
-- ==== Proof.Blocks.lean ====
module

public import proofs.«01_k».proof.Proof.Spec
public import proofs.«01_k».proof.Proof.Consts
public import proofs.«01_k».proof.Proof.Gen.KernelIdeal.Frame
public import Idealize.ShloMosaic.Lib.Pipeline.ValueKit
public import Idealize.ShloMosaic.Lib.Pointwise

/-! # What the three launches leave in their arrays, entry by entry, over the extended reals -/

@[expose] public section
set_option maxRecDepth 16384
noncomputable section
open Idealize.ShloMosaic Idealize.ShloMosaic.TcCoe Idealize.ShloMosaic.Tactic
open Idealize.SL.Sem
open Idealize.ShloMosaic.Pipeline (Dat Cfg Window)
namespace Cert.KernelIdeal.Value
open Cert.KernelIdeal Cert.KernelIdeal.Gen Cert.Norm

/-- The comparison-and-select of two extended reals, as an `if`. -/
theorem select_ole (a d x y : EReal) : Scalar.select (Ideal.cmp .ole a d) x y = if a ≤ d then x else y := by
  by_cases h : a ≤ d <;> simp [Ideal.cmp, Scalar.select, h]

/-- The quantised block at an entry. -/
theorem pay2_at (s : Ideal .f32) (x : FVec Ideal S1024x2048 .f32) (r : Fin 1024) (l : Fin 2048) :
    k1_pay2 (F := Ideal) s x (ix2 r l) = quant s (x (ix2 r l)) := by
  pointwise [k1_pay2]
  rfl

/-- The radicand of a row of the block. -/
theorem pay4_at (s : Ideal .f32) (x : FVec Ideal S1024x2048 .f32) (r : Fin 1024) :
    k1_pay4 (F := Ideal) s x (ix2 r 0) = nearest (meanSq s fun k => x (ix2 r k)) := by
  pointwise [k1_pay4]
  simp only [pay2_at]
  rfl

/-- One bit step on a column of roots. -/
def vstep (d q : FVec Ideal S1024x1 .f32) (b : BitVec 32) : FVec Ideal S1024x1 .f32 :=
  select (cmpf .ole (mulf (addf q (broadcast S1024x1 (Scalar.ofBits .f32 b))) (addf q (broadcast S1024x1 (Scalar.ofBits .f32 b)))) d)
    (addf q (broadcast S1024x1 (Scalar.ofBits .f32 b))) q

/-- At an entry, a step of the column's root is the step on that entry. -/
theorem vstep_at (d q : FVec Ideal S1024x1 .f32) (b : BitVec 32) (i : S1024x1.Idx) :
    vstep d q b i = bitStep (d i) (q i) (Ideal.ofBits .f32 b) :=
  select_ole _ _ _ _

/-- The column of rounded-down roots. -/
def vfloor (d : FVec Ideal S1024x1 .f32) : FVec Ideal S1024x1 .f32 :=
  vstep d (vstep d (vstep d (vstep d (vstep d (vstep d (vstep d (vstep d (broadcast S1024x1 (Scalar.ofBits .f32 0x00000000#32))
    0x43000000#32) 0x42800000#32) 0x42000000#32) 0x41800000#32) 0x41000000#32) 0x40800000#32) 0x40000000#32) 0x3F800000#32

/-- At an entry, the column of rounded-down roots is the eight-step root of that entry. -/
theorem vfloor_at (d : FVec Ideal S1024x1 .f32) (i : S1024x1.Idx) : vfloor d i = floorRoot (d i) := by
  unfold vfloor floorRoot
  simp only [vstep_at, bits_one]
  rw [show broadcast S1024x1 (Scalar.ofBits (F := Ideal) .f32 0x00000000#32) i = (0 : EReal) from Ideal.ofBits_zero_f32]

/-- The stored column of factors, from the columns of radicands and of rounded-down roots. -/
def vinv (d q : FVec Ideal S1024x1 .f32) : FVec Ideal S1024x1 .f32 :=
  divf (broadcast S1024x1 (Scalar.ofBits .f32 0x3F800000#32))
    (maximumf (addf q (sitofp .f32 (extui 32 (cmpf .ogt d (addf (mulf q q) q)) natLt_1_32)))
      (broadcast S1024x1 (Scalar.ofBits .f32 0x3727C5AC#32)))

/-- The stored column of factors is `vinv` of the radicands and of their rounded-down roots. -/
theorem pay8_eq (s : Ideal .f32) (x : FVec Ideal S1024x2048 .f32) :
    k1_pay8 (F := Ideal) (k1_pay4 s x) (k1_pay5 s x) (k1_pay6 s x) (k1_pay7 (F := Ideal) s x)
      = vinv (k1_pay4 s x) (vfloor (k1_pay4 s x)) := rfl

/-- A comparison bit widened to 32 bits and converted: one or zero. -/
theorem bit_value (p : Prop) [Decidable p] :
    (FloatOps.sitofp (F := Ideal) .f32 (BitVec.setWidth 32 (BitVec.ofBool (decide p))) : EReal) = if p then 1 else 0 := by
  by_cases h : p
  · simp only [h, decide_true, BitVec.ofBool_true, if_true]
    show (((BitVec.setWidth 32 1#1).toInt : ℝ) : EReal) = 1
    simp
  · simp only [h, decide_false, BitVec.ofBool_false, if_false]
    show (((BitVec.setWidth 32 0#1).toInt : ℝ) : EReal) = 0
    simp

/-- The factor of a row of the block. -/
theorem pay8_at (s : Ideal .f32) (x : FVec Ideal S1024x2048 .f32) (r : Fin 1024) :
    k1_pay8 (F := Ideal) (k1_pay4 s x) (k1_pay5 s x) (k1_pay6 s x) (k1_pay7 (F := Ideal) s x) (ix2 r 0)
      = invRow s fun k => x (ix2 r k) := by
  rw [pay8_eq]
  unfold invRow
  rw [← pay4_at]
  generalize k1_pay4 (F := Ideal) s x = d
  unfold vinv invRoot root
  rw [← vfloor_at d]
  generalize vfloor d = q
  pointwise
  rw [bit_value]
  split_ifs <;> simp

/-- The magnitude of the normalised entry, for any column of factors. -/
theorem pay9_at (s : Ideal .f32) (x : FVec Ideal S1024x2048 .f32) (w : FVec Ideal S1x2048 .f32) (r : Fin 1024) (l : Fin 2048) :
    k1_pay9 (F := Ideal) s (k1_pay2 s x) (k1_pay4 s x) (k1_pay5 s x) (k1_pay6 s x) (k1_pay7 (F := Ideal) s x) w (ix3 0 r l)
      = mag (normed s (invRow s fun k => x (ix2 r k)) (w (ix2 0 l)) (x (ix2 r l))) := by
  pointwise [k1_pay9]
  rw [pay8_at, pay2_at]
  rfl

/-- A maximum folded from the literal minus infinity is the supremum. -/
theorem fold_max {α : Type} [Fintype α] (f : α → EReal) :
    Finset.fold max (Ideal.ofBits .f32 0xFF800000#32) f Finset.univ = ⨆ a, f a := by
  rw [bits_bot, ← Finset.sup_univ_eq_iSup]; rfl

/-- The largest magnitude of a block. -/
theorem max0_at (x : FVec Ideal S1024x2048 .f32) (j : S1x1x1.Idx) :
    k0_pay1 (F := Ideal) x j = ⨆ r : Fin 1024, ⨆ l : Fin 2048, mag (x (ix2 r l)) := by
  idx_vars j
  pointwise [k0_pay1]
  refine (fold_max _).trans ?_
  exact iSup_prod

/-- The maximum of a block whose entries are known. -/
theorem max1_of (v : FVec Ideal S1x1024x2048 .f32) (j : S1x1x1.Idx) (g : Fin 1024 → Fin 2048 → EReal)
    (h : ∀ r l, v (ix3 0 r l) = g r l) : k1_pay1 (F := Ideal) v j = ⨆ r : Fin 1024, ⨆ l : Fin 2048, g r l := by
  idx_vars j
  pointwise [k1_pay1]
  refine (fold_max _).trans ?_
  simp only [h]
  exact iSup_prod

section Regions
variable (V : (c : Dev nD) → (b : Ref sig .tc) → Buf (Elt Ideal) ((c : Thread nD τ).loc b))

/-- Row `r` of block `t` as a row of the whole array. -/
def rowOf (t : Fin 16) (r : Fin 1024) : Fin 16384 := ⟨t.val * 1024 + r.val, by omega⟩

/-- The blocks the first launch reads and writes at a step: those of the step's row block. -/
theorem where0 : ∀ t : Fin cfg0.N, win0_0.index t = ![(grid0.coords t 0).val, 0] ∧ win0_1.index t = ![(grid0.coords t 0).val, 0, 0] :=
  (by decide +kernel : ∀ t : Fin grid0.N, _)

/-- The array the first launch leaves: each block's largest magnitude. -/
def blockMax (X : S16384x2048.Idx → EReal) : S16x1x1.Idx → EReal := fun i =>
  ⨆ r : Fin 1024, ⨆ l : Fin 2048, mag (X (ix2 (rowOf (i 0) r) l))

/-- The first launch leaves each block's largest magnitude. -/
theorem arr0 (c : Dev nD) : (dat0 V c).arrAt 1 cfg0.N = blockMax (V c main_v0) := by
  refine (dat0 V c).arrAt_eq_of_covers 1 _ (by decide +kernel) fun t hf y => ?_
  blk_simp
  rw [after0_1]
  frame_out
  rw [max0_at]
  unfold blockMax
  congr! 5 with r l
  idx_vars y
  blk_point [iblk0, where0 t, rowOf]

/-- The blocks the second launch reads and writes at a step: the weights and the scale are whole, the rest is the step's row block. -/
theorem where1 : ∀ t : Fin cfg1.N, win1_0.index t = ![(grid1.coords t 0).val, 0] ∧ win1_1.index t = ![0, 0]
    ∧ win1_2.index t = ![0, 0] ∧ win1_3.index t = ![(grid1.coords t 0).val, 0] ∧ win1_4.index t = ![(grid1.coords t 0).val, 0]
    ∧ win1_5.index t = ![(grid1.coords t 0).val, 0, 0] :=
  (by decide +kernel : ∀ t : Fin grid1.N, _)

/-- The quantised array the second launch leaves. -/
def quantised (s : EReal) (X : S16384x2048.Idx → EReal) : S16384x2048.Idx → BitVec 8 := fun i =>
  Ideal.fptosi 8 (quant s (X i))

/-- The second launch's first result is the quantised array. -/
theorem arr1_3 (c : Dev nD) :
    (dat1 V c).arrAt 3 cfg1.N = quantised (V c main_v6 (ix2 0 0)) (V c main_v0) := by
  refine (dat1 V c).arrAt_eq_of_covers 3 _ (by decide +kernel) fun t hf y => ?_
  blk_simp
  rw [after1_3]; unfold outsAt1; dsimp only
  frame_out
  generalize hs : View.ld (iblk1 V c 2 t) _ _ = s
  have es : s = V c main_v6 (ix2 0 0) := by
    rw [← hs]; pointwise; blk_ext [iblk1, where1 t]
  subst es
  idx_vars y
  pointwise [k1_pay3, quantised]
  rw [pay2_at]
  congr 2
  blk_ext [iblk1, where1 t]

/-- The column of row factors the second launch leaves. -/
def factors (s : EReal) (X : S16384x2048.Idx → EReal) : S16384x1.Idx → EReal := fun i =>
  invRow s fun k => X (ix2 (i 0) k)

/-- The second launch's second result is the column of row factors. -/
theorem arr1_4 (c : Dev nD) :
    (dat1 V c).arrAt 4 cfg1.N = factors (V c main_v6 (ix2 0 0)) (V c main_v0) := by
  refine (dat1 V c).arrAt_eq_of_covers 4 _ (by decide +kernel) fun t hf y => ?_
  blk_simp
  rw [after1_4]; unfold outsAt1; dsimp only
  frame_out
  generalize hs : View.ld (iblk1 V c 2 t) _ _ = s
  have es : s = V c main_v6 (ix2 0 0) := by
    rw [← hs]; pointwise; blk_ext [iblk1, where1 t]
  subst es
  idx_vars y
  obtain rfl : y1 = 0 := Subsingleton.elim _ _
  rw [pay8_at]
  unfold factors
  congr 1
  funext k
  blk_ext [iblk1, where1 t]

/-- The array of block maxima the second launch leaves. -/
def blockMaxNormed (s : EReal) (X : S16384x2048.Idx → EReal) (w : S1x2048.Idx → EReal) : S16x1x1.Idx → EReal := fun i =>
  ⨆ r : Fin 1024, ⨆ l : Fin 2048,
    mag (normed s (invRow s fun k => X (ix2 (rowOf (i 0) r) k)) (w (ix2 0 l)) (X (ix2 (rowOf (i 0) r) l)))

/-- The second launch's third result is each block's largest normalised magnitude. -/
theorem arr1_5 (c : Dev nD) :
    (dat1 V c).arrAt 5 cfg1.N = blockMaxNormed (V c main_v6 (ix2 0 0)) (V c main_v0) (V c main_v1) := by
  refine (dat1 V c).arrAt_eq_of_covers 5 _ (by decide +kernel) fun t hf y => ?_
  blk_simp
  rw [after1_5]; unfold outsAt1; dsimp only
  frame_out
  generalize hs : View.ld (iblk1 V c 2 t) _ _ = s
  have es : s = V c main_v6 (ix2 0 0) := by
    rw [← hs]; pointwise; blk_ext [iblk1, where1 t]
  subst es
  refine max1_of _ _ _ fun r l => ?_
  rw [pay9_at]
  idx_vars y
  have ex : ∀ k, iblk1 V c 0 t (ix2 r k)
      = V c main_v0 (ix2 (rowOf (((View.whole main_v7_2).slice (win1_5.rect t)).emb (ix3 y0 y1 y2) 0) r) k) := fun k => by
    blk_ext [iblk1, where1 t, rowOf]
  have ew : iblk1 V c 1 t (ix2 0 l) = V c main_v1 (ix2 0 l) := by blk_ext [iblk1, where1 t]
  simp only [ex, ew]

/-- The blocks the third launch reads and writes at a step: the weights and the scales are whole, the rest is the step's row block. -/
theorem where2 : ∀ t : Fin cfg2.N, win2_0.index t = ![(grid2.coords t 0).val, 0] ∧ win2_1.index t = ![0, 0]
    ∧ win2_2.index t = ![(grid2.coords t 0).val, 0] ∧ win2_3.index t = ![0, 0] ∧ win2_4.index t = ![(grid2.coords t 0).val, 0] :=
  (by decide +kernel : ∀ t : Fin grid2.N, _)

/-- The array the third launch leaves. -/
def requantised (s so : EReal) (q : S16384x2048.Idx → BitVec 8) (w : S1x2048.Idx → EReal) (f : S16384x1.Idx → EReal) :
    S16384x2048.Idx → EReal := fun i =>
  requant so (w (ix2 0 (i 1)) * (FloatOps.sitofp (F := Ideal) .f32 (q i) * s * f (ix2 (i 0) 0)))

/-- The third launch leaves the requantised array. -/
theorem arr2 (c : Dev nD) :
    (dat2 V c).arrAt 4 cfg2.N
      = requantised (V c main_v13 (ix2 0 0)) (V c main_v13 (ix2 0 1)) (V c main_v7_0) (V c main_v1) (V c main_v7_1) := by
  refine (dat2 V c).arrAt_eq_of_covers 4 _ (by decide +kernel) fun t hf y => ?_
  blk_simp
  rw [after2_4]; unfold outsAt2; dsimp only
  frame_out
  idx_vars y
  pointwise [k2_pay1, requantised, requant, quant]
  blk_point [iblk2, where2 t]
end Regions

end Cert.KernelIdeal.Value
-- ==== Proof.Sqrt.lean ====
/- The integer square root with rounding, as the reference program takes it: the position of the leading bit, a
   normalised table look-up, one comparison. On one 32-bit word; the table is the program's own literal. -/
module

public import proofs.«01_k».proof.ReferenceIdeal
public import Idealize.ShloMosaic.Lib.WordCmp
public import Mathlib.Tactic.IntervalCases
public import Mathlib.Tactic.Linarith
public import Mathlib.Tactic.Ring

@[expose] public section

noncomputable section

namespace Cert.Norm

open Idealize.ShloMosaic Idealize.ShloMosaic.WordCmp

/-! ## Words that hold small naturals -/

/-- A right shift of a word that holds a natural below `2 ^ 31` divides it by the power of two. -/
theorem shrsi_ofNat {n i : ℕ} (hn : n < 2 ^ 31) (hi : i < 32) :
    IntOp.shrsi .host (BitVec.ofNat 32 n) (BitVec.ofNat 32 i) = BitVec.ofNat 32 (n / 2 ^ i) := by
  have hle : n / 2 ^ i ≤ n := Nat.div_le_self _ _
  have hti : (BitVec.ofNat 32 i).toNat = i := toNat_ofNat_of_lt (by omega)
  have hm : (BitVec.ofNat 32 n).msb = false := by
    rw [BitVec.msb_eq_decide, toNat_ofNat_of_lt (by omega)]
    simp; omega
  unfold IntOp.shrsi
  rw [hti, if_pos hi]
  apply BitVec.eq_of_toNat_eq
  rw [BitVec.sshiftRight', hti, BitVec.sshiftRight_eq_of_msb_false hm, BitVec.toNat_ushiftRight,
    toNat_ofNat_of_lt (by omega), toNat_ofNat_of_lt (by omega), Nat.shiftRight_eq_div_pow]

/-- A left shift that stays below the width multiplies by the power of two. -/
theorem shli_ofNat {n i : ℕ} (hi : i < 32) :
    IntOp.shli .host (BitVec.ofNat 32 n) (BitVec.ofNat 32 i) = BitVec.ofNat 32 (n * 2 ^ i) := by
  have hti : (BitVec.ofNat 32 i).toNat = i := toNat_ofNat_of_lt (by omega)
  unfold IntOp.shli
  rw [hti, if_pos hi]
  apply BitVec.eq_of_toNat_eq
  rw [BitVec.shiftLeft_eq', hti, BitVec.toNat_shiftLeft, BitVec.toNat_ofNat, BitVec.toNat_ofNat, Nat.shiftLeft_eq]
  simp [Nat.mul_mod]

/-- The test `d >> i > 0` selects by `2 ^ i ≤ d`. -/
theorem select_shr {α : Type} {n i : ℕ} (hn : n < 2 ^ 16) (hi : i < 32) (x y : α) :
    Scalar.select (IntOp.cmpi .sgt (IntOp.shrsi .host (BitVec.ofNat 32 n) (BitVec.ofNat 32 i)) 0#32) x y
      = if 2 ^ i ≤ n then x else y := by
  have hle : n / 2 ^ i ≤ n := Nat.div_le_self _ _
  rw [shrsi_ofNat (by omega) hi, cmpi_sgt_ofNat (by omega) (by omega), select_decide]
  by_cases h : 2 ^ i ≤ n
  · rw [if_pos (Nat.div_pos h (by positivity)), if_pos h]
  · rw [if_neg (by rw [Nat.div_eq_of_lt (by omega)]; omega), if_neg h]

/-! ## The reference's steps, on one word -/

/-- The position of the leading bit of a word below `2 ^ 16`, by fifteen tests. -/
def msbW (d : BitVec 32) : BitVec 32 :=
  Scalar.select (IntOp.cmpi .sgt (IntOp.shrsi .host d 15#32) 0#32) 15#32
  (Scalar.select (IntOp.cmpi .sgt (IntOp.shrsi .host d 14#32) 0#32) 14#32
  (Scalar.select (IntOp.cmpi .sgt (IntOp.shrsi .host d 13#32) 0#32) 13#32
  (Scalar.select (IntOp.cmpi .sgt (IntOp.shrsi .host d 12#32) 0#32) 12#32
  (Scalar.select (IntOp.cmpi .sgt (IntOp.shrsi .host d 11#32) 0#32) 11#32
  (Scalar.select (IntOp.cmpi .sgt (IntOp.shrsi .host d 10#32) 0#32) 10#32
  (Scalar.select (IntOp.cmpi .sgt (IntOp.shrsi .host d 9#32) 0#32) 9#32
  (Scalar.select (IntOp.cmpi .sgt (IntOp.shrsi .host d 8#32) 0#32) 8#32
  (Scalar.select (IntOp.cmpi .sgt (IntOp.shrsi .host d 7#32) 0#32) 7#32
  (Scalar.select (IntOp.cmpi .sgt (IntOp.shrsi .host d 6#32) 0#32) 6#32
  (Scalar.select (IntOp.cmpi .sgt (IntOp.shrsi .host d 5#32) 0#32) 5#32
  (Scalar.select (IntOp.cmpi .sgt (IntOp.shrsi .host d 4#32) 0#32) 4#32
  (Scalar.select (IntOp.cmpi .sgt (IntOp.shrsi .host d 3#32) 0#32) 3#32
  (Scalar.select (IntOp.cmpi .sgt (IntOp.shrsi .host d 2#32) 0#32) 2#32
  (Scalar.select (IntOp.cmpi .sgt (IntOp.shrsi .host d 1#32) 0#32) 1#32 0#32))))))))))))))

/-- The sign of a word. -/
def signW (v : BitVec 32) : BitVec 32 := if v = 0 then 0 else if v.msb then -1 else 1

/-- Floor division by two as jnp writes it: the truncated quotient, less one where the signs differ and the
    remainder is not zero. -/
def halfW (v : BitVec 32) : BitVec 32 :=
  Scalar.select
    (IntOp.andi (IntOp.cmpi .ne (signW v) (signW 2#32)) (IntOp.cmpi .ne (IntOp.remsi .host v 2#32) 0#32))
    (IntOp.subi (IntOp.divsi .host v 2#32) 1#32) (IntOp.divsi .host v 2#32)

/-- The table address: the word shifted so that its leading bit is bit 14 or 15, its second byte. -/
def addrW (d k : BitVec 32) : BitVec 32 :=
  IntOp.andi (IntOp.shrsi .host (IntOp.shli .host d (IntOp.muli (IntOp.subi 7#32 k) 2#32)) 8#32) 255#32

/-- jnp's reading of a negative index from the end. -/
def wrapW (n : BitVec 32) (a : BitVec 32) : BitVec 32 :=
  Scalar.select (IntOp.cmpi .slt a 0#32) (IntOp.addi a n) a

/-- The place a gather reads in a vector of `n + 1` entries. -/
def placeW (n : ℕ) (a : BitVec 32) : Fin (n + 1) := ⟨min a.toInt.toNat n, by omega⟩

/-- The table's root, scaled back. -/
def floorW (d k : BitVec 32) : BitVec 32 :=
  IntOp.shrsi .host (ReferenceIdeal.lit1 (placeW 255 (wrapW 256#32 (addrW d k)))) (IntOp.subi 7#32 k)

/-- The rounded root from the floor: one more where the word is above `q * q + q`; zero at zero. -/
def roundW (d q : BitVec 32) : BitVec 32 :=
  Scalar.select (IntOp.cmpi .eq d 0#32) 0#32
    (Scalar.select (IntOp.cmpi .sgt d (IntOp.addi (IntOp.muli q q) q)) (IntOp.addi q 1#32) q)

/-- The reference's rounded integer root of a word. -/
def sqrtW (d : BitVec 32) : BitVec 32 := roundW d (floorW d (halfW (msbW d)))

/-! ## What they are on naturals -/

/-- `msbW` over naturals: the greatest `j ≤ i` with `2 ^ j ≤ n`, or zero. -/
def msbN : ℕ → ℕ → ℕ
  | 0, _ => 0
  | i + 1, n => if 2 ^ (i + 1) ≤ n then i + 1 else msbN i n

/-- `msbN i n` is the position of the leading bit of a positive number below `2 ^ (i + 1)`. -/
theorem msbN_spec {n : ℕ} (h1 : 1 ≤ n) : ∀ i : ℕ, n < 2 ^ (i + 1) →
    msbN i n ≤ i ∧ 2 ^ msbN i n ≤ n ∧ n < 2 ^ (msbN i n + 1)
  | 0, h => ⟨le_refl _, h1, h⟩
  | i + 1, h => by
    rw [msbN]
    by_cases hc : 2 ^ (i + 1) ≤ n
    · rw [if_pos hc]; exact ⟨le_refl _, hc, h⟩
    · rw [if_neg hc]
      obtain ⟨a, b, c⟩ := msbN_spec h1 i (by omega)
      exact ⟨by omega, b, c⟩

/-- On words of numbers below `2 ^ 16`, the search for the leading bit is the search on numbers. -/
theorem msbW_ofNat {n : ℕ} (hn : n < 2 ^ 16) : msbW (BitVec.ofNat 32 n) = BitVec.ofNat 32 (msbN 15 n) := by
  unfold msbW
  rw [select_shr hn (i := 15) (by decide), select_shr hn (i := 14) (by decide), select_shr hn (i := 13) (by decide),
    select_shr hn (i := 12) (by decide), select_shr hn (i := 11) (by decide), select_shr hn (i := 10) (by decide),
    select_shr hn (i := 9) (by decide), select_shr hn (i := 8) (by decide), select_shr hn (i := 7) (by decide),
    select_shr hn (i := 6) (by decide), select_shr hn (i := 5) (by decide), select_shr hn (i := 4) (by decide),
    select_shr hn (i := 3) (by decide), select_shr hn (i := 2) (by decide), select_shr hn (i := 1) (by decide)]
  simp only [msbN, apply_ite (BitVec.ofNat 32)]

/-- On words of small numbers, the halving is the division by two. -/
theorem halfW_ofNat : ∀ m : Fin 16, halfW (BitVec.ofNat 32 m.val) = BitVec.ofNat 32 (m.val / 2) := by decide

/-- Half the leading bit's position is the exponent of the greatest power of four not above the number. -/
theorem msbN_half {n : ℕ} (h1 : 1 ≤ n) (hn : n < 2 ^ 16) :
    msbN 15 n < 16 ∧ msbN 15 n / 2 ≤ 7 ∧ 4 ^ (msbN 15 n / 2) ≤ n ∧ n < 4 ^ (msbN 15 n / 2 + 1) := by
  obtain ⟨a, b, c⟩ := msbN_spec h1 15 hn
  generalize msbN 15 n = m at a b c ⊢
  have e : ∀ k : ℕ, (4 : ℕ) ^ k = 2 ^ (2 * k) := fun k => by rw [pow_mul]; norm_num
  refine ⟨by omega, by omega, ?_, ?_⟩
  · rw [e]; exact le_trans (Nat.pow_le_pow_right (by decide) (by omega)) b
  · rw [e]; exact lt_of_lt_of_le c (Nat.pow_le_pow_right (by decide) (by omega))

/-- Every table entry that the look-up reaches, scaled back, is right to within the rounding, at both ends of the
    interval of numbers that share its address. -/
theorem table_ok : ∀ k : Fin 8, ∀ a : Fin 256, 64 ≤ a.val →
    (ReferenceIdeal.lit1 a).toNat < 256
    ∧ ((ReferenceIdeal.lit1 a).toNat / 2 ^ (7 - k.val)) * ((ReferenceIdeal.lit1 a).toNat / 2 ^ (7 - k.val)) + 1
        ≤ (256 * a.val + (4 ^ (7 - k.val) - 1)) / 4 ^ (7 - k.val) + (ReferenceIdeal.lit1 a).toNat / 2 ^ (7 - k.val)
    ∧ (256 * a.val + 255) / 4 ^ (7 - k.val)
        ≤ ((ReferenceIdeal.lit1 a).toNat / 2 ^ (7 - k.val)) * ((ReferenceIdeal.lit1 a).toNat / 2 ^ (7 - k.val))
          + 3 * ((ReferenceIdeal.lit1 a).toNat / 2 ^ (7 - k.val)) + 2 := by
  decide +kernel

/-- The address of a number between `4 ^ k` and `4 ^ (k + 1)`. -/
theorem addrW_ofNat {n k : ℕ} (hk : k ≤ 7) (hlo : 4 ^ k ≤ n) (hhi : n < 4 ^ (k + 1)) :
    addrW (BitVec.ofNat 32 n) (BitVec.ofNat 32 k) = BitVec.ofNat 32 (n * 4 ^ (7 - k) / 256)
      ∧ 64 ≤ n * 4 ^ (7 - k) / 256 ∧ n * 4 ^ (7 - k) / 256 < 256 := by
  have e1 : IntOp.muli (IntOp.subi 7#32 (BitVec.ofNat 32 k)) 2#32 = BitVec.ofNat 32 (2 * (7 - k)) := by
    interval_cases k <;> rfl
  have e4 : (2 : ℕ) ^ (2 * (7 - k)) = 4 ^ (7 - k) := by rw [pow_mul]; norm_num
  have hb : 16384 ≤ n * 4 ^ (7 - k) ∧ n * 4 ^ (7 - k) < 65536 := by
    interval_cases k <;> norm_num at hlo hhi ⊢ <;> omega
  unfold addrW
  rw [e1, shli_ofNat (by omega), e4]
  generalize n * 4 ^ (7 - k) = N at hb ⊢
  rw [shrsi_ofNat (i := 8) (by omega) (by decide)]
  refine ⟨?_, by omega, by omega⟩
  apply BitVec.eq_of_toNat_eq
  show (BitVec.ofNat 32 (N / 2 ^ 8) &&& 255#32).toNat = _
  rw [BitVec.toNat_and, toNat_ofNat_of_lt (a := N / 2 ^ 8) (by omega), toNat_ofNat_of_lt (a := N / 256) (by omega)]
  show (N / 2 ^ 8) &&& (2 ^ 8 - 1) = _
  rw [Nat.and_two_pow_sub_one_eq_mod]
  omega

/-- THE REFERENCE'S ROOT: of a word that holds `n`, `1 ≤ n < 2 ^ 16`, it is the word of the `r` nearest to the
    root of `n`: `r * r - r < n ≤ r * r + r`. -/
theorem sqrtW_ofNat {n : ℕ} (h1 : 1 ≤ n) (hn : n < 2 ^ 16) :
    ∃ r : ℕ, sqrtW (BitVec.ofNat 32 n) = BitVec.ofNat 32 r ∧ r ≤ 256 ∧ r * r < n + r ∧ n ≤ r * r + r := by
  obtain ⟨hm, hk, hlo, hhi⟩ := msbN_half h1 hn
  have hhalf := halfW_ofNat ⟨msbN 15 n, hm⟩
  dsimp only at hhalf
  unfold sqrtW
  rw [msbW_ofNat hn, hhalf]
  generalize msbN 15 n / 2 = k at hk hlo hhi ⊢
  obtain ⟨ha, ha1, ha2⟩ := addrW_ofNat hk hlo hhi
  have hplace : placeW 255 (wrapW 256#32 (addrW (BitVec.ofNat 32 n) (BitVec.ofNat 32 k)))
      = ⟨n * 4 ^ (7 - k) / 256, ha2⟩ := by
    rw [ha]
    unfold wrapW
    rw [cmpi_slt_ofNat (by omega) (by omega), select_decide, if_neg (by omega)]
    apply Fin.ext
    show min (BitVec.ofNat 32 _).toInt.toNat 255 = _
    rw [toInt_ofNat_of_lt (by omega)]
    show min (((n * 4 ^ (7 - k) / 256 : ℕ) : ℤ)).toNat 255 = n * 4 ^ (7 - k) / 256
    rw [Int.toNat_natCast]
    omega
  obtain ⟨hq0, hq1, hq2⟩ := table_ok ⟨k, by omega⟩ ⟨n * 4 ^ (7 - k) / 256, ha2⟩ ha1
  unfold floorW
  rw [hplace]
  have e7 : IntOp.subi 7#32 (BitVec.ofNat 32 k) = BitVec.ofNat 32 (7 - k) := by interval_cases k <;> rfl
  rw [e7]
  generalize hv : (ReferenceIdeal.lit1 ⟨n * 4 ^ (7 - k) / 256, ha2⟩) = v at hq0 hq1 hq2 ⊢
  have hvn : v = BitVec.ofNat 32 v.toNat := by simp
  rw [hvn, shrsi_ofNat (by omega) (by omega)]
  dsimp only at hq1 hq2
  generalize hq : v.toNat / 2 ^ (7 - k) = q at hq1 hq2 ⊢
  have hqv : q ≤ v.toNat := hq ▸ Nat.div_le_self _ _
  have hq255 : q ≤ 255 := by omega
  -- the interval of numbers at this address
  have hc : 0 < 4 ^ (7 - k) := by positivity
  have hdown : (256 * (n * 4 ^ (7 - k) / 256) + (4 ^ (7 - k) - 1)) / 4 ^ (7 - k) ≤ n := by
    rw [← Nat.lt_add_one_iff, Nat.div_lt_iff_lt_mul hc, Nat.add_mul]
    have := Nat.mul_div_le (n * 4 ^ (7 - k)) 256
    omega
  have hup : n ≤ (256 * (n * 4 ^ (7 - k) / 256) + 255) / 4 ^ (7 - k) := by
    rw [Nat.le_div_iff_mul_le hc]
    omega
  have hqq : q * q ≤ 255 * 255 := Nat.mul_le_mul hq255 hq255
  unfold roundW
  have em : IntOp.addi (IntOp.muli (BitVec.ofNat 32 q) (BitVec.ofNat 32 q)) (BitVec.ofNat 32 q)
      = BitVec.ofNat 32 (q * q + q) := by rw [muli_ofNat, addi_ofNat]
  have e1 : IntOp.addi (BitVec.ofNat 32 q) 1#32 = BitVec.ofNat 32 (q + 1) := addi_ofNat q 1
  rw [em, e1, cmpi_eq_ofNat (by omega) (by omega), select_decide, if_neg (by omega),
    cmpi_sgt_ofNat (by omega) (by omega), select_decide]
  by_cases h : q * q + q < n
  · rw [if_pos h]
    have e : (q + 1) * (q + 1) = q * q + 2 * q + 1 := by ring
    exact ⟨q + 1, rfl, by omega, by omega, by omega⟩
  · rw [if_neg h]
    exact ⟨q, rfl, by omega, by omega, by omega⟩

/-- The rounded root is unique. -/
theorem root_unique {n r s : ℕ} (hr : r * r < n + r) (hr' : n ≤ r * r + r) (hs : s * s < n + s) (hs' : n ≤ s * s + s) :
    r = s := by
  rcases lt_trichotomy r s with h | h | h
  · exfalso; nlinarith
  · exact h
  · exfalso; nlinarith

end Cert.Norm

end
-- ==== Proof.Math.lean ====
module

public import proofs.«01_k».proof.Proof.Spec
public import proofs.«01_k».proof.Proof.Consts
public import proofs.«01_k».proof.Proof.Sqrt

/-! # The mathematics of the claim: rounding, clamping, the scale, the sum of squares, the two roots -/

@[expose] public section
noncomputable section
open Idealize.ShloMosaic
namespace Cert.Norm

/-! ## Clamped roundings are integers -/

/-- Any extended real, rounded and then clamped between two integers, is an integer between them. -/
theorem clamp_round_int (a b : ℤ) (hab : a ≤ b) (y : EReal) :
    ∃ z : ℤ, a ≤ z ∧ z ≤ b
      ∧ min ((b : ℝ) : EReal) (max ((a : ℝ) : EReal) (Ideal.liftRound Ideal.roundHalfEven y)) = ((z : ℝ) : EReal) := by
  have hab' : ((a : ℝ) : EReal) ≤ ((b : ℝ) : EReal) := by exact_mod_cast hab
  induction y using EReal.rec with
  | bot => exact ⟨a, le_rfl, hab, by simp [hab']⟩
  | top => exact ⟨b, hab, le_rfl, by simp⟩
  | coe r =>
    refine ⟨min b (max a (Ideal.roundHalfEven r)), le_min hab (le_max_left _ _), min_le_left _ _, ?_⟩
    rw [Ideal.liftRound_coe, Int.cast_min, Int.cast_max, EReal.coe_strictMono.monotone.map_min,
      EReal.coe_strictMono.monotone.map_max]

/-- The quantised value is an integer in [-127, 127]. -/
theorem quant_int (s x : EReal) : ∃ z : ℤ, -127 ≤ z ∧ z ≤ 127 ∧ quant s x = ((z : ℝ) : EReal) := by
  obtain ⟨z, h1, h2, h⟩ := clamp_round_int (-127) 127 (by norm_num) (Ideal.div x s)
  refine ⟨z, h1, h2, ?_⟩
  rw [← h]
  unfold quant
  rw [bits_127, bits_neg127]
  norm_num

/-- The radicand is a natural number in [1, 65535]. -/
theorem nearest_nat (t : EReal) : ∃ n : ℕ, 1 ≤ n ∧ n < 2 ^ 16 ∧ nearest t = ((n : ℝ) : EReal) := by
  obtain ⟨z, h1, h2, h⟩ := clamp_round_int 1 65535 (by norm_num) (max t 0)
  obtain ⟨n, rfl⟩ := Int.eq_ofNat_of_zero_le (by omega : 0 ≤ z)
  refine ⟨n, by omega, by omega, ?_⟩
  unfold nearest
  rw [bits_65535]
  push_cast at h
  simpa using h

/-- Converting an integral real within the signed 8-bit range to a word and back. -/
theorem int8_roundtrip (z : ℤ) (h1 : -127 ≤ z) (h2 : z ≤ 127) :
    (FloatOps.sitofp (F := Ideal) .f32 (Ideal.fptosi 8 ((z : ℝ) : EReal)) : EReal) = ((z : ℝ) : EReal) := by
  show (((BitVec.ofInt 8 (Ideal.toIntClamped _ _ ((z : ℝ) : EReal))).toInt : ℝ) : EReal) = _
  have h : Ideal.toIntClamped (-(2 ^ (8 - 1) : Nat)) ((2 ^ (8 - 1) : Nat) - 1) ((z : ℝ) : EReal) = z := by
    show max _ (min _ (if 0 ≤ (z : ℝ) then ⌊(z : ℝ)⌋ else ⌈(z : ℝ)⌉)) = z
    rw [Int.floor_intCast, Int.ceil_intCast, ite_self]
    norm_num
    omega
  rw [h, BitVec.toInt_ofInt]
  congr 2
  rw [Int.bmod_def]
  norm_num
  split_ifs <;> omega

/-- A quantised value stored as an 8-bit integer and read back is unchanged. -/
theorem quant_roundtrip (s x : EReal) :
    (FloatOps.sitofp (F := Ideal) .f32 (Ideal.fptosi 8 (quant s x)) : EReal) = quant s x := by
  obtain ⟨z, h1, h2, h⟩ := quant_int s x
  rw [h, int8_roundtrip z h1 h2]

/-- Converting a natural number below 2^16 to a 32-bit word. -/
theorem fptosi32_nat (n : ℕ) (h : n < 2 ^ 16) : Ideal.fptosi 32 ((n : ℝ) : EReal) = BitVec.ofNat 32 n := by
  have e : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = (n : ℤ)
    rw [if_pos (Nat.cast_nonneg n), Int.floor_natCast]
    norm_num
    omega
  unfold Ideal.fptosi
  rw [e, BitVec.ofInt_natCast]

/-- Converting a small natural number held in a 32-bit word to a real. -/
theorem sitofp32_nat (n : ℕ) (h : n < 2 ^ 16) :
    (FloatOps.sitofp (F := Ideal) .f32 (BitVec.ofNat 32 n) : EReal) = ((n : ℝ) : EReal) := by
  show (((BitVec.ofNat 32 n).toInt : ℝ) : EReal) = _
  congr 1
  have e : (BitVec.ofNat 32 n).toInt = (n : ℤ) := by
    rw [BitVec.toInt_eq_toNat_cond, BitVec.toNat_ofNat]
    rw [Nat.mod_eq_of_lt (by omega), if_pos (by omega)]
  rw [e]
  simp

/-! ## Dividing by the scale -/

/-- The scale is positive. -/
theorem scaleFor_pos (t : EReal) : 0 < scaleFor t := by
  obtain ⟨e, he, h⟩ := bits_small
  unfold scaleFor
  rw [h]
  exact lt_max_of_lt_right (by exact_mod_cast he)

/-- The inverse of an extended real is always a real. -/
theorem inv_real (s : EReal) : ∃ b : ℝ, s⁻¹ = ((b : ℝ) : EReal) := by
  induction s using EReal.rec with
  | bot => exact ⟨0, by simp⟩
  | top => exact ⟨0, by simp⟩
  | coe r => exact ⟨r⁻¹, by rw [EReal.coe_inv]⟩

/-- An entry over the scale of a magnitude at or above its own is a real number. -/
theorem div_scale_real (t x : EReal) (h : mag x ≤ t) : ∃ r : ℝ, Ideal.div x (scaleFor t) = ((r : ℝ) : EReal) := by
  have hp := scaleFor_pos t
  unfold Ideal.div
  rw [if_neg hp.ne']
  by_cases ht : t = ⊤
  · subst ht
    have : scaleFor ⊤ = ⊤ := by
      unfold scaleFor Ideal.div
      rw [bits_127, if_neg (by norm_num), ← EReal.coe_inv, EReal.top_mul_of_pos (by norm_num)]
      simp
    rw [this]
    exact ⟨0, by simp⟩
  · have hx : x ≠ ⊤ := fun e => ht (top_le_iff.1 (le_trans (by simp [mag, e]) h))
    have hx' : x ≠ ⊥ := fun e => ht (top_le_iff.1 (le_trans (by simp [mag, e]) h))
    obtain ⟨b, hb⟩ := inv_real (scaleFor t)
    lift x to ℝ using ⟨hx, hx'⟩
    exact ⟨x * b, by rw [hb, EReal.coe_mul]⟩

/-- For a real number, adding the difference to its rounding gives its rounding. -/
theorem round_through (r : ℝ) :
    ((r : ℝ) : EReal) + (Ideal.liftRound Ideal.roundHalfEven ((r : ℝ) : EReal) - ((r : ℝ) : EReal))
      = Ideal.liftRound Ideal.roundHalfEven ((r : ℝ) : EReal) := by
  rw [Ideal.liftRound_coe, ← EReal.coe_sub, ← EReal.coe_add]
  congr 1
  ring

/-- The same, for an entry over the scale of a magnitude at or above its own, clamped: the quantised value. -/
theorem quant_through (t x : EReal) (h : mag x ≤ t) :
    min (Ideal.ofBits .f32 0x42FE0000#32) (max (Ideal.ofBits .f32 0xC2FE0000#32)
      (Ideal.div x (scaleFor t) + (Ideal.liftRound Ideal.roundHalfEven (Ideal.div x (scaleFor t)) - Ideal.div x (scaleFor t))))
      = quant (scaleFor t) x := by
  obtain ⟨r, hr⟩ := div_scale_real t x h
  unfold quant
  rw [hr, round_through]

/-! ## The mean square -/

theorem quant_sq_nonneg (s x : EReal) : 0 ≤ quant s x * quant s x := by
  obtain ⟨z, -, -, h⟩ := quant_int s x
  rw [h, ← EReal.coe_mul]
  exact_mod_cast mul_self_nonneg (z : ℝ)

/-- A sum of nonnegative terms times a factor, term by term. -/
theorem sum_mul_nonneg {n : ℕ} (f : Fin n → EReal) (hf : ∀ k, 0 ≤ f k) (c : EReal) : ∑ k, f k * c = (∑ k, f k) * c := by
  have : ∀ t : Finset (Fin n), ∑ k ∈ t, f k * c = (∑ k ∈ t, f k) * c := fun t => by
    induction t using Finset.induction_on with
    | empty => simp
    | insert a t ha ih =>
      rw [Finset.sum_insert ha, Finset.sum_insert ha, ih, EReal.right_distrib_of_nonneg (hf a) (Finset.sum_nonneg fun k _ => hf k)]
  exact this _

/-- The mean square as the terms scaled one by one, summed, and divided by 2048. -/
theorem meanSq_eq (s : EReal) (row : Fin 2048 → EReal) :
    Ideal.div (∑ k, quant s (row k) * quant s (row k) * (s * s)) (Ideal.ofBits .f32 0x45000000#32) = meanSq s row := by
  rw [sum_mul_nonneg _ fun k => quant_sq_nonneg _ _]
  unfold meanSq Ideal.div
  have h0 : Ideal.ofBits .f32 0x45000000#32 ≠ 0 := by rw [bits_2048]; norm_num
  rw [if_neg h0, if_neg h0, mul_assoc]

/-! ## The bitwise root -/

theorem bitStep_nat (n q b : ℕ) :
    bitStep ((n : ℝ) : EReal) ((q : ℝ) : EReal) ((b : ℝ) : EReal)
      = (((if (q + b) * (q + b) ≤ n then q + b else q : ℕ) : ℝ) : EReal) := by
  unfold bitStep
  have e : (((q : ℝ) : EReal) + ((b : ℝ) : EReal)) * (((q : ℝ) : EReal) + ((b : ℝ) : EReal)) ≤ ((n : ℝ) : EReal)
      ↔ (q + b) * (q + b) ≤ n := by
    rw [← EReal.coe_add, ← EReal.coe_mul, EReal.coe_le_coe_iff]; exact_mod_cast Iff.rfl
  by_cases h : (q + b) * (q + b) ≤ n
  · rw [if_pos (e.2 h), if_pos h]; push_cast; rfl
  · rw [if_neg (fun c => h (e.1 c)), if_neg h]

/-- One step keeps the root between the candidate and the candidate plus the bit. -/
theorem bitStep_spec (n q b : ℕ) (h1 : q * q ≤ n) (h2 : n < (q + 2 * b) * (q + 2 * b)) :
    ∃ q' : ℕ, bitStep ((n : ℝ) : EReal) ((q : ℝ) : EReal) ((b : ℝ) : EReal) = ((q' : ℝ) : EReal)
      ∧ q' * q' ≤ n ∧ n < (q' + b) * (q' + b) := by
  refine ⟨_, bitStep_nat n q b, ?_⟩
  split_ifs with h
  · exact ⟨h, by rw [add_assoc, ← two_mul]; exact h2⟩
  · exact ⟨h1, not_le.1 h⟩

/-- Eight steps find the root rounded down. -/
theorem floorRoot_nat (n : ℕ) (h : n < 2 ^ 16) :
    ∃ q : ℕ, floorRoot ((n : ℝ) : EReal) = ((q : ℝ) : EReal) ∧ q * q ≤ n ∧ n < (q + 1) * (q + 1) := by
  obtain ⟨q7, e7, a7, b7⟩ := bitStep_spec n 0 128 (by omega) (by omega)
  obtain ⟨q6, e6, a6, b6⟩ := bitStep_spec n q7 64 a7 b7
  obtain ⟨q5, e5, a5, b5⟩ := bitStep_spec n q6 32 a6 b6
  obtain ⟨q4, e4, a4, b4⟩ := bitStep_spec n q5 16 a5 b5
  obtain ⟨q3, e3, a3, b3⟩ := bitStep_spec n q4 8 a4 b4
  obtain ⟨q2, e2, a2, b2⟩ := bitStep_spec n q3 4 a3 b3
  obtain ⟨q1, e1, a1, b1⟩ := bitStep_spec n q2 2 a2 b2
  obtain ⟨q0, e0, a0, b0⟩ := bitStep_spec n q1 1 a1 b1
  refine ⟨q0, ?_, a0, b0⟩
  unfold floorRoot
  simp only [bits_128, bits_64, bits_32, bits_16, bits_8, bits_4, bits_2]
  simp only [Nat.cast_ofNat, Nat.cast_zero, Nat.cast_one, EReal.coe_zero, EReal.coe_one] at e7 e6 e5 e4 e3 e2 e1 e0
  rw [e7, e6, e5, e4, e3, e2, e1, e0]

/-- The root rounded to nearest, of a natural number. -/
theorem root_nat (n : ℕ) (h1 : 1 ≤ n) (h : n < 2 ^ 16) :
    ∃ r : ℕ, root ((n : ℝ) : EReal) = ((r : ℝ) : EReal) ∧ r * r < n + r ∧ n ≤ r * r + r := by
  obtain ⟨q, e, ha, hb⟩ := floorRoot_nat n h
  unfold root
  rw [e]
  have e1 : ((q : ℝ) : EReal) * ((q : ℝ) : EReal) + ((q : ℝ) : EReal) < ((n : ℝ) : EReal) ↔ q * q + q < n := by
    rw [← EReal.coe_mul, ← EReal.coe_add, EReal.coe_lt_coe_iff]; exact_mod_cast Iff.rfl
  by_cases hq : q * q + q < n
  · rw [if_pos (e1.2 hq)]
    refine ⟨q + 1, by push_cast; rfl, ?_, ?_⟩ <;> nlinarith
  · rw [if_neg (fun c => hq (e1.1 c))]
    refine ⟨q, rfl, ?_, by omega⟩
    rcases Nat.eq_zero_or_pos q with rfl | hp <;> omega

/-- The reference's integer root of a radicand, converted, is the kernel's. -/
theorem root_eq (n : ℕ) (h1 : 1 ≤ n) (h : n < 2 ^ 16) :
    (FloatOps.sitofp (F := Ideal) .f32 (sqrtW (BitVec.ofNat 32 n)) : EReal) = root ((n : ℝ) : EReal) := by
  obtain ⟨r, e, ha, hb⟩ := root_nat n h1 h
  obtain ⟨r', e', hr, ha', hb'⟩ := sqrtW_ofNat h1 h
  obtain rfl := root_unique ha hb ha' hb'
  rw [e, e', sitofp32_nat _ (by omega)]

end Cert.Norm
-- ==== Proof.KernelValue.lean ====
/- The contents of the kernel's result buffer after its run, as the closed form of `Spec`. -/
module

public import proofs.«01_k».proof.Proof.Blocks
public import proofs.«01_k».proof.Proof.Math

@[expose] public section
set_option maxRecDepth 16384
noncomputable section
open Idealize.ShloMosaic Idealize.ShloMosaic.TcCoe Idealize.ShloMosaic.Tactic
open Idealize.SL.Sem
namespace Cert.KernelIdeal.Value
open Cert.KernelIdeal Cert.KernelIdeal.Gen Cert.Norm

variable (m : (ℓ : Loc nD τ sig) → Buf (Elt Ideal) ℓ) (ρ : Dev nD → PrngReg) (c : Dev nD)

/-- The launched activation. -/
abbrev argX : S4x4096x2048.Idx → EReal := m ((c : Thread nD τ).loc main_arg0)
/-- The launched weight. -/
abbrev argW : S2048.Idx → EReal := m ((c : Thread nD τ).loc main_arg1)

/-- The first array handed to the launches is the input, its batches laid one after another. -/
theorem v0_at (r : Fin 16384) (k : Fin 2048) :
    (W1 m ρ c (Proc.devRef .tc main_v0) : S16384x2048.Idx → EReal) (ix2 r k) = rows (argX m c) r k := by
  have e : W1 m ρ c (Proc.devRef .tc main_v0)
      = shapeCast S16384x2048 (argX m c) shapeCasts_S4x4096x2048_S16384x2048 := by
    unfold W1; after_results; rfl
  rw [e]
  pointwise [rows]

/-- The weights handed to the launches are the argument as one row. -/
theorem v1_at (k : Fin 2048) :
    (W1 m ρ c (Proc.devRef .tc main_v1) : S1x2048.Idx → EReal) (ix2 0 k) = weight (argW m c) k := by
  have e : W1 m ρ c (Proc.devRef .tc main_v1) = shapeCast S1x2048 (argW m c) shapeCasts_S2048_S1x2048 := by
    unfold W1; after_results; rfl
  rw [e]
  pointwise [weight]

/-- The block maxima's maximum is the maximum over all rows. -/
theorem iSup_rows (f : Fin 16384 → EReal) : ⨆ t : Fin 16, ⨆ r : Fin 1024, f (rowOf t r) = ⨆ r, f r := by
  apply le_antisymm
  · exact iSup_le fun t => iSup_le fun r => le_iSup f _
  · refine iSup_le fun r => ?_
    have e : rowOf ⟨r.val / 1024, by omega⟩ ⟨r.val % 1024, by omega⟩ = r := by
      apply Fin.ext; simp only [rowOf]; omega
    exact le_trans (by rw [e]) (le_iSup₂ (f := fun t r => f (rowOf t r)) ⟨r.val / 1024, by omega⟩ ⟨r.val % 1024, by omega⟩)

/-- The scale of an array of block maxima. -/
def scaleOfMax (v : S16x1x1.Idx → EReal) : FVec Ideal S_ .f32 :=
  maximumf (Host.divf (Host.reduce (FloatOps.maximumf (F := Ideal) (φ := .f32)) (v : FVec Ideal S16x1x1 .f32) (constant S_ .f32 0xFF800000#32)
    reducesTo_S16x1x1_S_d0_1_2 h_S_) (constant S_ .f32 0x42FE0000#32)) (constant S_ .f32 0x322BCC77#32)

/-- A scale computed from block maxima is the scale of the largest of them. -/
theorem scaleOfMax_at (v : S16x1x1.Idx → EReal) (j : S_.Idx) : scaleOfMax v j = scaleFor (⨆ t : Fin 16, v (ix3 t 0 0)) := by
  pointwise [scaleOfMax, scaleFor]
  rw [fold_max, iSup_prod]
  simp only [iSup_prod, iSup_unique]
  rfl

/-! ## The launches' arrays at an index -/

/-- The maximum of the block maxima, of an array given by rows. -/
theorem blockMax_of (x : S16384x2048.Idx → EReal) (f : Fin 16384 → Fin 2048 → EReal) (hx : ∀ r k, x (ix2 r k) = f r k) :
    ⨆ t : Fin 16, blockMax x (ix3 t 0 0) = ⨆ r, ⨆ k, mag (f r k) := by
  have h : ∀ t : Fin 16, blockMax x (ix3 t 0 0) = ⨆ r : Fin 1024, ⨆ l : Fin 2048, mag (x (ix2 (rowOf t r) l)) := fun _ => rfl
  simp only [h, hx]
  exact iSup_rows fun r => ⨆ k, mag (f r k)

/-- The same for the normalised entries. -/
theorem blockMaxNormed_of (s : EReal) (x : S16384x2048.Idx → EReal) (w : S1x2048.Idx → EReal)
    (f : Fin 16384 → Fin 2048 → EReal) (g : Fin 2048 → EReal) (hx : ∀ r k, x (ix2 r k) = f r k) (hw : ∀ k, w (ix2 0 k) = g k) :
    ⨆ t : Fin 16, blockMaxNormed s x w (ix3 t 0 0) = ⨆ r, ⨆ k, mag (normed s (invRow s (f r)) (g k) (f r k)) := by
  have h : ∀ t : Fin 16, blockMaxNormed s x w (ix3 t 0 0) = ⨆ r : Fin 1024, ⨆ l : Fin 2048,
      mag (normed s (invRow s fun k => x (ix2 (rowOf t r) k)) (w (ix2 0 l)) (x (ix2 (rowOf t r) l))) := fun _ => rfl
  simp only [h, hx, hw]
  exact iSup_rows fun r => ⨆ k, mag (normed s (invRow s (f r)) (g k) (f r k))

/-- The third launch's array, over the second's, of an array given by rows. -/
theorem requantised_of (x : S16384x2048.Idx → EReal) (w : S1x2048.Idx → EReal) (s so : EReal)
    (f : Fin 16384 → Fin 2048 → EReal) (g : Fin 2048 → EReal) (hx : ∀ r k, x (ix2 r k) = f r k) (hw : ∀ k, w (ix2 0 k) = g k)
    (r : Fin 16384) (k : Fin 2048) :
    requantised s so (quantised s x) w (factors s x) (ix2 r k) = requant so (normed s (invRow s (f r)) (g k) (f r k)) := by
  have h : requantised s so (quantised s x) w (factors s x) (ix2 r k)
      = requant so (w (ix2 0 k) * (FloatOps.sitofp (F := Ideal) .f32 (Ideal.fptosi 8 (quant s (x (ix2 r k)))) * s
          * invRow s fun k => x (ix2 r k))) := rfl
  rw [h, quant_roundtrip]
  simp only [hx, hw]
  rfl

/-! ## The buffers at the launches' entries -/

/-- The rows of the launched activation. -/
abbrev X : Fin 16384 → Fin 2048 → EReal := rows (argX m c)
/-- The launched weight row. -/
abbrev Wt : Fin 2048 → EReal := weight (argW m c)

/-- The first launch and what follows it leave the input as it was. -/
theorem v0_2 : W3 m ρ c (Proc.devRef .tc main_v0) = W1 m ρ c (Proc.devRef .tc main_v0) :=
  (W3_of m ρ c main_v0 (by decide)).trans (W2_of m ρ c main_v0 (by decide))
/-- The first launch and what follows it leave the weights as they were. -/
theorem v1_2 : W3 m ρ c (Proc.devRef .tc main_v1) = W1 m ρ c (Proc.devRef .tc main_v1) :=
  (W3_of m ρ c main_v1 (by decide)).trans (W2_of m ρ c main_v1 (by decide))

/-- After the first launch its result holds the block maxima of the input. -/
theorem v2_eq : W2 m ρ c (Proc.devRef .tc main_v2) = blockMax (W1 m ρ c (Proc.devRef .tc main_v0)) :=
  (W2_arr m ρ c 1).trans (arr0 (V1 m ρ) c)

/-- The scale computed after the first launch is the closed form's. -/
theorem v5_eq (j : S_.Idx) : (W3 m ρ c (Proc.devRef .tc main_v5) : S_.Idx → EReal) j = scaleIn (X m c) := by
  have e : W3 m ρ c (Proc.devRef .tc main_v5) = scaleOfMax (W2 m ρ c (Proc.devRef .tc main_v2)) := by
    unfold W3; after_results; rfl
  rw [e, scaleOfMax_at, v2_eq]
  unfold scaleIn
  rw [blockMax_of _ _ (v0_at m ρ c)]

/-- The scale handed to the second launch is the closed form's input scale. -/
theorem v6_eq (j : S1x1.Idx) : (W3 m ρ c (Proc.devRef .tc main_v6) : S1x1.Idx → EReal) j = scaleIn (X m c) := by
  have e : W3 m ρ c (Proc.devRef .tc main_v6) = shapeCast S1x1 (W3 m ρ c (Proc.devRef .tc main_v5)) shapeCasts_S_S1x1 := by
    unfold W3; after_results; rfl
  rw [e]
  exact v5_eq m ρ c _

/-- After the second launch: the quantised array. -/
theorem v7_0_eq : W4 m ρ c (Proc.devRef .tc main_v7_0)
    = quantised (W3 m ρ c (Proc.devRef .tc main_v6) (ix2 0 0)) (W3 m ρ c (Proc.devRef .tc main_v0)) :=
  (W4_arr m ρ c 3).trans (arr1_3 (V3 m ρ) c)
/-- After the second launch: the row factors. -/
theorem v7_1_eq : W4 m ρ c (Proc.devRef .tc main_v7_1)
    = factors (W3 m ρ c (Proc.devRef .tc main_v6) (ix2 0 0)) (W3 m ρ c (Proc.devRef .tc main_v0)) :=
  (W4_arr m ρ c 4).trans (arr1_4 (V3 m ρ) c)
/-- After the second launch: the block maxima of the normalised entries. -/
theorem v7_2_eq : W4 m ρ c (Proc.devRef .tc main_v7_2)
    = blockMaxNormed (W3 m ρ c (Proc.devRef .tc main_v6) (ix2 0 0)) (W3 m ρ c (Proc.devRef .tc main_v0))
        (W3 m ρ c (Proc.devRef .tc main_v1)) :=
  (W4_arr m ρ c 5).trans (arr1_5 (V3 m ρ) c)

/-- The output's scale is the closed form's. -/
theorem v10_eq (j : S_.Idx) : (W5 m ρ c (Proc.devRef .tc main_v10) : S_.Idx → EReal) j = scaleOut (X m c) (Wt m c) := by
  have e : W5 m ρ c (Proc.devRef .tc main_v10) = scaleOfMax (W4 m ρ c (Proc.devRef .tc main_v7_2)) := by
    unfold W5; after_results; rfl
  rw [e, scaleOfMax_at, v7_2_eq]
  unfold scaleOut
  rw [v6_eq, v0_2, v1_2, blockMaxNormed_of _ _ _ _ _ (v0_at m ρ c) (v1_at m ρ c)]
  rfl

/-- The pair of scales handed to the third launch is the two scales side by side. -/
theorem v13_eq : W5 m ρ c (Proc.devRef .tc main_v13)
    = concatenate S1x2 1 [⟨S1x1, shapeCast S1x1 (W4 m ρ c (Proc.devRef .tc main_v5)) shapeCasts_S_S1x1⟩,
        ⟨S1x1, shapeCast S1x1 (W5 m ρ c (Proc.devRef .tc main_v10)) shapeCasts_S_S1x1⟩] concatenates_S1x1_S1x1_S1x2_d1 := by
  unfold W5; after_results; rfl

/-- The first of the pair is the closed form's input scale. -/
theorem v13_at0 : (W5 m ρ c (Proc.devRef .tc main_v13) : S1x2.Idx → EReal) (ix2 0 0) = scaleIn (X m c) := by
  rw [v13_eq]
  refine Eq.trans ?_ (v5_eq m ρ c ix0)
  rw [← W4_of m ρ c main_v5 (by decide)]
  pointwise

/-- The second of the pair is the closed form's output scale. -/
theorem v13_at1 : (W5 m ρ c (Proc.devRef .tc main_v13) : S1x2.Idx → EReal) (ix2 0 1) = scaleOut (X m c) (Wt m c) := by
  rw [v13_eq]
  refine Eq.trans ?_ (v10_eq m ρ c ix0)
  pointwise

/-- After the third launch its result is the requantised array of what the second launch left. -/
theorem v14_eq : W6 m ρ c (Proc.devRef .tc main_v14)
    = requantised (W5 m ρ c (Proc.devRef .tc main_v13) (ix2 0 0)) (W5 m ρ c (Proc.devRef .tc main_v13) (ix2 0 1))
        (W4 m ρ c (Proc.devRef .tc main_v7_0)) (W1 m ρ c (Proc.devRef .tc main_v1)) (W4 m ρ c (Proc.devRef .tc main_v7_1)) := by
  refine ((W6_arr m ρ c 4).trans (arr2 (V5 m ρ) c)).trans ?_
  have e0 : W5 m ρ c (Proc.devRef .tc main_v7_0) = W4 m ρ c (Proc.devRef .tc main_v7_0) := W5_of m ρ c main_v7_0 (by decide)
  have e1 : W5 m ρ c (Proc.devRef .tc main_v7_1) = W4 m ρ c (Proc.devRef .tc main_v7_1) := W5_of m ρ c main_v7_1 (by decide)
  have e2 : W5 m ρ c (Proc.devRef .tc main_v1) = W1 m ρ c (Proc.devRef .tc main_v1) :=
    (W5_of m ρ c main_v1 (by decide)).trans ((W4_of m ρ c main_v1 (by decide)).trans (v1_2 m ρ c))
  rw [← e0, ← e1, ← e2]

/-- Entry by entry, the third launch's result is the closed form. -/
theorem v14_at (r : Fin 16384) (k : Fin 2048) :
    (W6 m ρ c (Proc.devRef .tc main_v14) : S16384x2048.Idx → EReal) (ix2 r k) = result (X m c) (Wt m c) r k := by
  rw [v14_eq, v13_at0, v13_at1, v7_0_eq, v7_1_eq, v6_eq, v0_2]
  exact requantised_of _ _ _ _ _ _ (v0_at m ρ c) (v1_at m ρ c) r k

/-- The kernel's result array. -/
theorem kernel_result : W7 m ρ c (Proc.devRef .tc main_v15)
    = resultArray (argX m c) (argW m c) := by
  have e : W7 m ρ c (Proc.devRef .tc main_v15)
      = shapeCast S4x4096x2048 (W6 m ρ c (Proc.devRef .tc main_v14)) shapeCasts_S16384x2048_S4x4096x2048 := by
    unfold W7; after_results; rfl
  rw [e]
  funext i
  idx_vars i
  pointwise
  exact v14_at m ρ c _ _

end Cert.KernelIdeal.Value
-- ==== Proof.Table.lean ====
/- The reference's two table look-ups read at an index, and its square of a quantised magnitude by nibbles. -/
module

public import proofs.«01_k».proof.Proof.Math
public import Idealize.ShloMosaic.Lib.Pointwise

@[expose] public section
noncomputable section
open Idealize.ShloMosaic
namespace Cert.Norm
open Cert.ReferenceIdeal

section Take
variable {α : Type}

/-- A look-up in a table of `N` at an array `[A, B, C]` of positions, held as `[A, B, C, 1]`. -/
abbrev lookup (N A B C : Nat)
    (wf : GatherDims.WF ⟨1, ![N]⟩ ⟨4, ![A, B, C, 1]⟩ ⟨3, ![A, B, C]⟩ [] [0] [] [0] [] 3 ![1]) :
    GatherDims ⟨1, ![N]⟩ ⟨4, ![A, B, C, 1]⟩ ⟨3, ![A, B, C]⟩ where
  offsetDims := []
  collapsedSliceDims := [0]
  operandBatchingDims := []
  startIndicesBatchingDims := []
  startIndexMap := [0]
  indexVectorDim := 3
  sliceSizes := ![1]
  wf := wf

/-- The look-up at `(a, b, k)`: the table at the position there, read signed and clamped into the table. -/
theorem lookup_at {N A B C w : Nat}
    (wf : GatherDims.WF ⟨1, ![N + 1]⟩ ⟨4, ![A, B, C, 1]⟩ ⟨3, ![A, B, C]⟩ [] [0] [] [0] [] 3 ![1])
    (x : (⟨1, ![N + 1]⟩ : Shape).Idx → α) (idx : IVec ⟨4, ![A, B, C, 1]⟩ w) (a : Fin A) (b : Fin B) (k : Fin C) :
    Host.gather (lookup (N + 1) A B C wf) x idx (ix3 a b k)
      = x (ix1 ⟨min (idx (ix4 a b k 0)).toInt.toNat N, by omega⟩) := by
  unfold Host.gather
  refine congrArg x (funext fun e => ?_)
  obtain rfl : e = 0 := Subsingleton.elim _ _
  apply Fin.ext
  show (lookup (N + 1) A B C wf).start (ix3 a b k) idx 0 + (lookup (N + 1) A B C wf).batchCoord (ix3 a b k) 0
      + (lookup (N + 1) A B C wf).offCoord (ix3 a b k) 0 = _
  have hoff : (lookup (N + 1) A B C wf).offCoord (ix3 a b k) 0 = 0 :=
    GatherDims.offCoord_eq_zero _ _ _ fun h => ((GatherDims.mem_sKept _ _).mp h).1 (List.mem_singleton.mpr rfl)
  rw [GatherDims.batchCoord_eq_zero _ _ _ List.not_mem_nil, hoff, Nat.add_zero]
  have hmem : (0 : Fin 1) ∈ (lookup (N + 1) A B C wf).startIndexMap := List.mem_singleton.mpr rfl
  have hat : (lookup (N + 1) A B C wf).siIdx (ix3 a b k)
      ⟨List.idxOf (0 : Fin 1) (lookup (N + 1) A B C wf).startIndexMap, List.idxOf_lt_length_iff.2 hmem⟩ = ix4 a b k 0 := by
    funext i
    apply Fin.ext
    match i with
    | ⟨0, _⟩ => rfl
    | ⟨1, _⟩ => rfl
    | ⟨2, _⟩ => rfl
    | ⟨3, _⟩ => rfl
  unfold GatherDims.start
  rw [dif_pos hmem, hat]
  rfl

end Take

/-- The entry of the table of squares at a position. -/
theorem squares_at : ∀ i : Fin 16, Ideal.ofBits .f32 (lit0 i) = ((((i.val * i.val : ℕ) : ℝ)) : EReal) := by
  intro i
  fin_cases i <;> simp [lit0, Ideal.ofBits, Ideal.ieee, -EReal.coe_mul] <;> norm_num

/-- The place of a position in a table of sixteen, after a negative position is wrapped. -/
def nibblePlace (d : BitVec 32) : Fin 16 := placeW 15 (wrapW 16#32 d)

/-- The reference's square of a magnitude held in a word: from its two nibbles `h`, `l`, the table's `h²·256`, plus `h·l·32`,
    plus the table's `l²`. -/
def nibbleSquare (d : BitVec 32) : EReal :=
  Ideal.ofBits .f32 (lit0 (nibblePlace (IntOp.shrsi .host d 4#32))) * Ideal.ofBits .f32 0x43800000#32
    + FloatOps.sitofp (F := Ideal) .f32 (IntOp.muli (IntOp.shrsi .host d 4#32) (IntOp.andi d 15#32)) * Ideal.ofBits .f32 0x42000000#32
    + Ideal.ofBits .f32 (lit0 (nibblePlace (IntOp.andi d 15#32)))

/-- The two halves of a magnitude as places in the table of squares, and the product of the halves. -/
theorem nibbles : ∀ a : Fin 128, (nibblePlace (IntOp.shrsi .host (BitVec.ofNat 32 a) 4#32)).val = a.val / 16
    ∧ (nibblePlace (IntOp.andi (BitVec.ofNat 32 a) 15#32)).val = a.val % 16
    ∧ IntOp.muli (IntOp.shrsi .host (BitVec.ofNat 32 a) 4#32) (IntOp.andi (BitVec.ofNat 32 a) 15#32)
        = BitVec.ofNat 32 (a.val / 16 * (a.val % 16)) := by
  decide +kernel

/-- It is the square, for magnitudes up to 127. -/
theorem nibbleSquare_eq (a : ℕ) (h : a < 128) : nibbleSquare (BitVec.ofNat 32 a) = ((((a : ℝ) * (a : ℝ) : ℝ)) : EReal) := by
  obtain ⟨h1, h2, h3⟩ := nibbles ⟨a, h⟩
  dsimp only at h1 h2 h3
  unfold nibbleSquare
  have hb : a / 16 * (a % 16) < 2 ^ 16 := by
    have := Nat.mul_le_mul (show a / 16 ≤ 8 by omega) (show a % 16 ≤ 16 by omega)
    omega
  rw [squares_at, squares_at, h1, h2, h3, sitofp32_nat _ hb, bits_256, bits_32]
  rw [← EReal.coe_mul, ← EReal.coe_mul, ← EReal.coe_add, ← EReal.coe_add]
  congr 1
  have e : (a : ℝ) = 16 * ((a / 16 : ℕ) : ℝ) + ((a % 16 : ℕ) : ℝ) := by exact_mod_cast (Nat.div_add_mod a 16).symm
  push_cast at e ⊢
  rw [e]
  ring

/-- The magnitude of a quantised value, converted to a word, has the quantised value's square. -/
theorem nibbleSquare_quant (s x : EReal) :
    nibbleSquare (Ideal.fptosi 32 (mag (quant s x))) = quant s x * quant s x := by
  obtain ⟨z, h1, h2, h⟩ := quant_int s x
  have e : mag (quant s x) = ((z.natAbs : ℝ) : EReal) := by
    rw [h]
    unfold mag
    rw [← EReal.coe_neg, ← EReal.coe_strictMono.monotone.map_max]
    congr 1
    rw [Nat.cast_natAbs, Int.cast_abs]
    rfl
  rw [e, fptosi32_nat _ (by omega), nibbleSquare_eq _ (by omega), h, ← EReal.coe_mul]
  congr 1
  rw [Nat.cast_natAbs, Int.cast_abs, abs_mul_abs_self]

end Cert.Norm
-- ==== Proof.RefValue.lean ====
/- The reference's result, as the closed form of `Spec`. -/
module

public import proofs.«01_k».proof.Proof.Table
public import proofs.«01_k».proof.Proof.Gen.ReferenceIdeal.Run
public import Idealize.ShloMosaic.Lib.Pointwise

@[expose] public section
set_option maxRecDepth 16384
noncomputable section
open Idealize.ShloMosaic Idealize.ShloMosaic.TcCoe Idealize.ShloMosaic.Tactic
open Idealize.SL.Sem
namespace Cert.ReferenceIdeal.Value
open Cert.ReferenceIdeal Cert.ReferenceIdeal.Gen Cert.Norm

variable (V : Valuation τ sig (Elt Ideal))

/-- The activation argument. -/
abbrev argX : S4x4096x2048.Idx → EReal := V (Proc.devRef .tc main_arg0)
/-- The weight argument. -/
abbrev argW : S2048.Idx → EReal := V (Proc.devRef .tc main_arg1)
/-- The rows of the activation. -/
abbrev X : Fin 16384 → Fin 2048 → EReal := rows (argX V)
/-- The weight row. -/
abbrev Wt : Fin 2048 → EReal := weight (argW V)

/-- A maximum folded from the literal minus infinity is the supremum. -/
theorem fold_max {α : Type} [Fintype α] (f : α → EReal) :
    Finset.fold max (Ideal.ofBits .f32 0xFF800000#32) f Finset.univ = ⨆ a, f a := by
  rw [bits_bot, ← Finset.sup_univ_eq_iSup]; rfl

/-- A scale, from an array given by rows. -/
theorem scale_at (x : FVec Ideal S4x4096x2048 .f32) (f : Fin 16384 → Fin 2048 → EReal)
    (hx : ∀ a b k, x (ix3 a b k) = f (rowAt a b) k) (j : S_.Idx) :
    maximumf (Host.divf (Host.reduce (FloatOps.maximumf (F := Ideal) (φ := .f32)) (Host.absf x) (constant S_ .f32 0xFF800000#32)
      reducesTo_S4x4096x2048_S_d0_1_2 h_S_) (constant S_ .f32 0x42FE0000#32)) (constant S_ .f32 0x322BCC77#32) j
      = scaleFor (⨆ r, ⨆ k, mag (f r k)) := by
  pointwise
  rw [fold_max, iSup_prod]
  simp only [iSup_prod, hx]
  rw [← iSup_batches]
  rfl

/-- The reference's input scale is the closed form's. -/
theorem v3_at (j : S_.Idx) : res_main_v3 V j = scaleIn (X V) :=
  scale_at (argX V) (X V) (fun a b k => (rows_rowAt _ a b k).symm) j

/-- An entry's magnitude is at most the largest magnitude. -/
theorem mag_le (a : Fin 4) (b : Fin 4096) (k : Fin 2048) : mag (argX V (ix3 a b k)) ≤ ⨆ r, ⨆ k, mag (X V r k) := by
  rw [← rows_rowAt (argX V) a b k]
  exact le_iSup₂ (f := fun r k => mag (X V r k)) (rowAt a b) k

/-- The reference's scaled input, entry by entry. -/
theorem v5_at (a : Fin 4) (b : Fin 4096) (k : Fin 2048) :
    res_main_v5 V (ix3 a b k) = Ideal.div (argX V (ix3 a b k)) (scaleIn (X V)) := by
  unfold res_main_v5
  pointwise
  rw [v3_at]

/-- The reference's quantised input: rounding by adding the rounding error, then clamping, is `quant`. -/
theorem v9_at (a : Fin 4) (b : Fin 4096) (k : Fin 2048) :
    res_main_v9 V (ix3 a b k) = quant (scaleIn (X V)) (argX V (ix3 a b k)) := by
  unfold res_main_v9
  pointwise
  rw [v5_at]
  exact quant_through _ _ (mag_le V a b k)

/-! ## The sum of squares -/

theorem place16 : ∀ i : Fin 16, (S16.rowMajor (ix1 i)).val = i.val := by decide +kernel
/-- The place of an index in a 256-entry table is the index itself. -/
theorem place256 : ∀ i : Fin 256, (S256.rowMajor (ix1 i)).val = i.val := by decide +kernel

/-- The look-up in the table of squares. -/
theorem squares_lookup (idx : IVec S4x4096x2048x1 32) (a : Fin 4) (b : Fin 4096) (k : Fin 2048) :
    Host.gather gather_S16_S4x4096x2048x1_S4x4096x2048_n_0_n_n_0_3_1 (res_main_cst V) idx (ix3 a b k)
      = Ideal.ofBits .f32 (lit0 (placeW 15 (idx (ix4 a b k 0)))) := by
  refine (lookup_at (N := 15) gather_S16_S4x4096x2048x1_S4x4096x2048_n_0_n_n_0_3_1_wf (res_main_cst V) idx a b k).trans ?_
  exact congrArg (fun i => Ideal.ofBits .f32 (lit0 i)) (Fin.ext (place16 _))

/-- The look-up in the table of roots. -/
theorem roots_lookup (idx : IVec S4x4096x1x1 32) (a : Fin 4) (b : Fin 4096) :
    Host.gather gather_S256_S4x4096x1x1_S4x4096x1_n_0_n_n_0_3_1 (fun i => lit1 (S256.rowMajor i)) idx (ix3 a b 0)
      = lit1 (placeW 255 (idx (ix4 a b 0 0))) := by
  refine (lookup_at (N := 255) gather_S256_S4x4096x1x1_S4x4096x1_n_0_n_n_0_3_1_wf (fun i => lit1 (S256.rowMajor i)) idx a b 0).trans ?_
  exact congrArg lit1 (Fin.ext (place256 _))

/-- The reference's integer magnitudes, entry by entry. -/
theorem v13_at (a : Fin 4) (b : Fin 4096) (k : Fin 2048) :
    res_main_v13 V (ix3 a b k) = Ideal.fptosi 32 (mag (quant (scaleIn (X V)) (argX V (ix3 a b k)))) := by
  rw [← v9_at]; rfl

/-- The reference's sum of squares of a row, term by term. -/
theorem square_at (a : Fin 4) (b : Fin 4096) (k : Fin 2048) :
    (addf (addf (mulf (Host.gather gather_S16_S4x4096x2048x1_S4x4096x2048_n_0_n_n_0_3_1 (res_main_cst V) (broadcastInDim S4x4096x2048x1 ![0, 1, 2] bcast_S4x4096x2048_S4x4096x2048x1_0_1_2 (select (cmpi .slt (res_main_v15 V) (broadcastInDim S4x4096x2048 ![] bcast_S_S4x4096x2048 (constantI S_ 32 0#32))) (addi (res_main_v15 V) (broadcastInDim S4x4096x2048 ![] bcast_S_S4x4096x2048 (constantI S_ 32 16#32))) (res_main_v15 V)))) (broadcastInDim S4x4096x2048 ![] bcast_S_S4x4096x2048 (constant (F := Ideal) S_ .f32 0x43800000#32))) (mulf (sitofp .f32 (muli (res_main_v15 V) (res_main_v17 V))) (broadcastInDim S4x4096x2048 ![] bcast_S_S4x4096x2048 (constant S_ .f32 0x42000000#32)))) (Host.gather gather_S16_S4x4096x2048x1_S4x4096x2048_n_0_n_n_0_3_1 (res_main_cst V) (broadcastInDim S4x4096x2048x1 ![0, 1, 2] bcast_S4x4096x2048_S4x4096x2048x1_0_1_2 (select (cmpi .slt (res_main_v17 V) (broadcastInDim S4x4096x2048 ![] bcast_S_S4x4096x2048 (constantI S_ 32 0#32))) (addi (res_main_v17 V) (broadcastInDim S4x4096x2048 ![] bcast_S_S4x4096x2048 (constantI S_ 32 16#32))) (res_main_v17 V))))) (ix3 a b k)
      = nibbleSquare (res_main_v13 V (ix3 a b k)) := by
  pointwise
  rw [squares_lookup, squares_lookup]
  have e15 : res_main_v15 V (ix3 a b k) = IntOp.shrsi .host (res_main_v13 V (ix3 a b k)) 4#32 := rfl
  have e17 : res_main_v17 V (ix3 a b k) = IntOp.andi (res_main_v13 V (ix3 a b k)) 15#32 := rfl
  pointwise
  rw [e15, e17]
  generalize res_main_v13 V (ix3 a b k) = d
  rfl

/-- Clamping a natural number below 2^16, held in a word, to [0, 65535] changes nothing. -/
theorem clamp_word (n : ℕ) (h : n < 2 ^ 16) :
    IntOp.minsi 65535#32 (IntOp.maxsi 0#32 (BitVec.ofNat 32 n)) = BitVec.ofNat 32 n := by
  have e : (BitVec.ofNat 32 n).toInt = (n : ℤ) := by
    rw [BitVec.toInt_eq_toNat_cond, BitVec.toNat_ofNat, Nat.mod_eq_of_lt (by omega), if_pos (by omega)]
  unfold IntOp.minsi IntOp.maxsi
  have h0 : ¬ (BitVec.ofNat 32 n).toInt < (0#32).toInt := by rw [e]; simp
  have hm : ¬ (65535#32).toInt < (BitVec.ofNat 32 n).toInt := by
    rw [e, show (65535#32).toInt = 65535 from by decide]; omega
  simp only [BitVec.slt, h0, hm, decide_false, Bool.false_eq_true, if_false]

/-- The radicand the reference takes the integer root of: the rounded and clamped mean square as a word. -/
theorem v52_at (a : Fin 4) (b : Fin 4096) :
    res_main_v52 V (ix3 a b 0) = Ideal.fptosi 32 (nearest (meanSq (scaleIn (X V)) (X V (rowAt a b)))) := by
  unfold res_main_v52
  generalize hq : (addf (addf (mulf (Host.gather gather_S16_S4x4096x2048x1_S4x4096x2048_n_0_n_n_0_3_1 (res_main_cst V) _) _) _) _) = q
  have hq' : ∀ k, q (ix3 a b k) = quant (scaleIn (X V)) (X V (rowAt a b) k) * quant (scaleIn (X V)) (X V (rowAt a b) k) := fun k => by
    rw [← hq, square_at, v13_at, nibbleSquare_quant, ← rows_rowAt (argX V) a b k]
  clear hq
  pointwise
  simp only [hq', v3_at, meanSq_eq]
  have e : min (id (constant (F := Ideal) S_ .f32 0x477FFF00#32) ix0) (max (id (constant (F := Ideal) S_ .f32 0x3F800000#32) ix0)
      (Ideal.liftRound Ideal.roundHalfEven (max (meanSq (scaleIn (X V)) (X V (rowAt a b))) 0)))
      = nearest (meanSq (scaleIn (X V)) (X V (rowAt a b))) := by
    rw [show id (constant (F := Ideal) S_ .f32 0x3F800000#32) ix0 = 1 from bits_one]
    rfl
  rw [e]
  generalize meanSq (scaleIn (X V)) (X V (rowAt a b)) = t
  obtain ⟨n, h1, h2, h⟩ := nearest_nat t
  rw [h]
  show IntOp.minsi 65535#32 (IntOp.maxsi 0#32 (Ideal.fptosi 32 ((n : ℝ) : EReal))) = _
  rw [fptosi32_nat n h2]
  exact clamp_word n h2

/-! ## The root -/

theorem v128_at (i : S4x4096x1.Idx) : res_main_v128 V i = msbW (res_main_v52 V i) := rfl

/-- Half the leading bit's position, entry by entry. -/
theorem v129_at (i : S4x4096x1.Idx) : res_main_v129 V i = halfW (res_main_v128 V i) := rfl

/-- The address into the table of roots, entry by entry. -/
theorem v138_at (i : S4x4096x1.Idx) : res_main_v138 V i = addrW (res_main_v52 V i) (res_main_v129 V i) := rfl

/-- The rounded-down root the reference looks up, entry by entry. -/
theorem v148_at (a : Fin 4) (b : Fin 4096) :
    res_main_v148 V (ix3 a b 0) = floorW (res_main_v52 V (ix3 a b 0)) (res_main_v129 V (ix3 a b 0)) := by
  unfold res_main_v148
  pointwise
  rw [roots_lookup]
  pointwise
  rw [v138_at]
  rfl

/-- The reference's root of a row's radicand. -/
theorem root_at (a : Fin 4) (b : Fin 4096) :
    select (cmpi .eq (res_main_v52 V) (broadcastInDim S4x4096x1 ![] bcast_S_S4x4096x1 (constantI S_ 32 0#32))) (broadcastInDim S4x4096x1 ![] bcast_S_S4x4096x1 (id (constantI S_ 32 0#32))) (select (cmpi .sgt (res_main_v52 V) (addi (muli (res_main_v148 V) (res_main_v148 V)) (res_main_v148 V))) (addi (res_main_v148 V) (broadcastInDim S4x4096x1 ![] bcast_S_S4x4096x1 (constantI S_ 32 1#32))) (res_main_v148 V)) (ix3 a b 0)
      = sqrtW (res_main_v52 V (ix3 a b 0)) := by
  unfold sqrtW
  rw [← v128_at, ← v129_at, ← v148_at]
  rfl

/-! ## The normalised entries and the result -/

theorem v167_at (a : Fin 4) (b : Fin 4096) (k : Fin 2048) :
    res_main_v167 V (ix3 a b k) = entry (X V) (Wt V) (rowAt a b) k := by
  unfold res_main_v167
  generalize hq : select (cmpi .eq (res_main_v52 V) _) _ _ = q
  have hq' : q (ix3 a b 0) = sqrtW (res_main_v52 V (ix3 a b 0)) := by rw [← hq, root_at]
  clear hq
  pointwise
  rw [hq', v52_at, v9_at, v3_at]
  unfold entry normed invRow invRoot
  rw [← rows_rowAt (argX V) a b k]
  generalize meanSq (scaleIn (X V)) (X V (rowAt a b)) = t
  obtain ⟨n, h1, h2, h⟩ := nearest_nat t
  rw [h, fptosi32_nat n h2, root_eq n h1 h2]
  rfl

/-- The reference's output scale is the closed form's. -/
theorem v171_at (j : S_.Idx) : res_main_v171 V j = scaleOut (X V) (Wt V) :=
  scale_at (res_main_v167 V) (entry (X V) (Wt V)) (fun a b k => v167_at V a b k) j

/-- The reference's normalised entries over the output scale. -/
theorem v173_at (a : Fin 4) (b : Fin 4096) (k : Fin 2048) :
    res_main_v173 V (ix3 a b k) = Ideal.div (entry (X V) (Wt V) (rowAt a b) k) (scaleOut (X V) (Wt V)) := by
  unfold res_main_v173
  pointwise
  rw [v171_at, v167_at]

/-- The reference's result array. -/
theorem reference_result :
    mulf (minimumf (broadcastInDim S4x4096x2048 ![] bcast_S_S4x4096x2048 (id (constant S_ .f32 0x42FE0000#32))) (maximumf (broadcastInDim S4x4096x2048 ![] bcast_S_S4x4096x2048 (id (constant S_ .f32 0xC2FE0000#32))) (addf (res_main_v173 V) (subf (Host.roundeven (res_main_v173 V)) (res_main_v173 V))))) (broadcastInDim S4x4096x2048 ![] bcast_S_S4x4096x2048 (res_main_v171 V))
      = resultArray (argX V) (argW V) := by
  funext i
  idx_vars i
  pointwise
  rw [v173_at, v171_at]
  have hm : mag (entry (X V) (Wt V) (rowAt i0 i1) i2) ≤ ⨆ r, ⨆ k, mag (entry (X V) (Wt V) r k) :=
    le_iSup₂ (f := fun r k => mag (entry (X V) (Wt V) r k)) (rowAt i0 i1) i2
  exact congrArg (· * scaleOut (X V) (Wt V)) (quant_through _ _ hm)

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, leaves its arguments unchanged and declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- On equal arguments the kernel and the reference end with equal results: both are the closed form
    `Cert.Norm.resultArray` of the arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W7 m g c (Proc.devRef .tc Cert.KernelIdeal.main_v15), ?_, ?_⟩
  · exact (θ_run Cert.KernelIdeal.defs _ _).mono (fun _ h => h.1) (Cert.KernelIdeal.Gen.run m g)
  · refine (θ_run Cert.ReferenceIdeal.defs _ _).mono (fun _ h c => ⟨(h c).1.trans ?_, (h c).2⟩)
      (Cert.ReferenceIdeal.Value.run (F := Ideal) m' g')
    have ex : Cert.ReferenceIdeal.Value.argX (StableHlo.launchContents m' c) = Cert.KernelIdeal.Value.argX m c := (hagree c).1
    have ew : Cert.ReferenceIdeal.Value.argW (StableHlo.launchContents m' c) = Cert.KernelIdeal.Value.argW m c := (hagree c).2
    refine (Cert.ReferenceIdeal.Value.reference_result _).trans ?_
    rw [ex, ew]
    exact (Cert.KernelIdeal.Value.kernel_result m g c).symm

/-- The five claims together. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  frame_reference, trivial, algebraic⟩

end Cert.Proof

end
